-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x64x32x32 : Shape := ⟨4, ![8, 64, 32, 32]⟩
abbrev S1024x64 : Shape := ⟨2, ![1024, 64]⟩
abbrev S8x32x32x64 : Shape := ⟨4, ![8, 32, 32, 64]⟩
abbrev S8x1024x64 : Shape := ⟨3, ![8, 1024, 64]⟩
abbrev S1x1024x64 : Shape := ⟨3, ![1, 1024, 64]⟩
abbrev S_ : Shape := ⟨0, ![]⟩
abbrev S8x1024 : Shape := ⟨2, ![8, 1024]⟩
abbrev S8x1024x1 : Shape := ⟨3, ![8, 1024, 1]⟩
abbrev S8x1x1024 : Shape := ⟨3, ![8, 1, 1024]⟩
abbrev S8x1024x1024 : Shape := ⟨3, ![8, 1024, 1024]⟩

class Facts : Prop where
  transposes_S8x64x32x32_S8x32x32x64_0_2_3_1 : S8x64x32x32.Transposes [0, 2, 3, 1] S8x32x32x64
  shapeCasts_S8x32x32x64_S8x1024x64 : S8x32x32x64.ShapeCasts S8x1024x64
  bcast_S1024x64_S1x1024x64_1_2 : S1024x64.BroadcastsInDim S1x1024x64 (![1, 2] : Fin 2 → Fin S1x1024x64.rank)
  bcast_S1x1024x64_S8x1024x64_0_1_2 : S1x1024x64.BroadcastsInDim S8x1024x64 (![0, 1, 2] : Fin 3 → Fin S8x1024x64.rank)
  reducesTo_S8x1024x64_S8x1024_d2 : S8x1024x64.ReducesTo [2] S8x1024
  h_S_ : 0 < S_.numel
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  reducesTo_S8x1024x1024_S8x1024_d2 : S8x1024x1024.ReducesTo [2] S8x1024
  natLt_1_32 : 1 < 32
  bcast_S_S8x1024 : S_.BroadcastsInDim S8x1024 (![] : Fin 0 → Fin S8x1024.rank)
  dot_S8x1024x64_S8x1024x64_S8x1024x1024_2_2_1_1_0_0_wf : DotDims.WF S8x1024x64 S8x1024x64 S8x1024x1024 [2] [2] [1] [1] [0] [0]

variable [Facts]

def dot_S8x1024x64_S8x1024x64_S8x1024x1024_2_2_1_1_0_0 : DotDims S8x1024x64 S8x1024x64 S8x1024x1024 where
  lhsContracting := [2]
  rhsContracting := [2]
  lhsNonContracting := [1]
  rhsNonContracting := [1]
  lhsBatch := [0]
  rhsBatch := [0]
  wf := dot_S8x1024x64_S8x1024x64_S8x1024x1024_2_2_1_1_0_0_wf
def fn_part1 {F : FTy → Type} [FloatOps F] (main_v19 : FVec F S8x1024x1024 .f32) : IVec S8x1024 1 :=
  let main_cst_3 : FVec F S_ .f32 := constant S_ .f32 0x7F800000#32
  let main_v20 : FVec F S8x1024 .f32 := (fun x v => Host.reduce FloatOps.minimumf x v reducesTo_S8x1024x1024_S8x1024_d2 h_S_) main_v19 main_cst_3
  let main_v21 : FVec F S8x1024x1 .f32 := broadcastInDim S8x1024x1 ![0, 1] bcast_S8x1024_S8x1024x1_0_1 main_v20
  let main_v22 : FVec F S8x1024x1024 .f32 := broadcastInDim S8x1024x1024 ![0, 1, 2] bcast_S8x1024x1_S8x1024x1024_0_1_2 main_v21
  let main_v23 : IVec S8x1024x1024 1 := cmpf .oeq main_v19 main_v22
  let main_v24 : IVec S8x1024x1024 32 := (extui 32 · natLt_1_32) main_v23
  let main_c : IVec S_ 32 := constantI S_ 32 0#32
  let main_v25 : IVec S8x1024 32 := (fun x v => Host.reduce IntOp.addi x v reducesTo_S8x1024x1024_S8x1024_d2 h_S_) main_v24 main_c
  let main_c_4 : IVec S_ 32 := constantI S_ 32 1#32
  let main_v26 : IVec S8x1024 32 := broadcastInDim S8x1024 ![] bcast_S_S8x1024 main_c_4
  let main_v27 : IVec S8x1024 1 := cmpi .eq main_v25 main_v26
  main_v27

def fn {F : FTy → Type} [FloatOps F] (main_arg0 : FVec F S8x64x32x32 .f32) (main_arg1 : FVec F S1024x64 .f32) : IVec S8x1024 1 :=
  let main_v0 : FVec F S8x32x32x64 .f32 := (transpose S8x32x32x64 [0, 2, 3, 1] · transposes_S8x64x32x32_S8x32x32x64_0_2_3_1) main_arg0
  let main_v1 : FVec F S8x1024x64 .f32 := shapeCast S8x1024x64 main_v0 shapeCasts_S8x32x32x64_S8x1024x64
  let main_v2 : FVec F S1x1024x64 .f32 := broadcastInDim S1x1024x64 ![1, 2] bcast_S1024x64_S1x1024x64_1_2 main_arg1
  let main_v3 : FVec F S8x1024x64 .f32 := broadcastInDim S8x1024x64 ![0, 1, 2] bcast_S1x1024x64_S8x1024x64_0_1_2 main_v2
  let main_v4 : FVec F S8x1024x64 .f32 := mulf main_v1 main_v1
  let main_cst : FVec F S_ .f32 := constant S_ .f32 0x00000000#32
  let main_v5 : FVec F S8x1024 .f32 := (fun x v => Host.reduceAdd x v reducesTo_S8x1024x64_S8x1024_d2 h_S_) main_v4 main_cst
  let main_v6 : FVec F S8x1024x1 .f32 := broadcastInDim S8x1024x1 ![0, 1] bcast_S8x1024_S8x1024x1_0_1 main_v5
  let main_v7 : FVec F S8x1024x64 .f32 := mulf main_v3 main_v3
  let main_cst_0 : FVec F S_ .f32 := constant S_ .f32 0x00000000#32
  let main_v8 : FVec F S8x1024 .f32 := (fun x v => Host.reduceAdd x v reducesTo_S8x1024x64_S8x1024_d2 h_S_) main_v7 main_cst_0
  let main_v9 : FVec F S8x1x1024 .f32 := broadcastInDim S8x1x1024 ![0, 2] bcast_S8x1024_S8x1x1024_0_2 main_v8
  let main_v10 : FVec F S8x1024x1024 .f32 := broadcastInDim S8x1024x1024 ![0, 1, 2] bcast_S8x1024x1_S8x1024x1024_0_1_2 main_v6
  let main_v11 : FVec F S8x1024x1024 .f32 := broadcastInDim S8x1024x1024 ![0, 1, 2] bcast_S8x1x1024_S8x1024x1024_0_1_2 main_v9
  let main_v12 : FVec F S8x1024x1024 .f32 := addf main_v10 main_v11
  let main_v13 : FVec F S8x1024x1024 .f32 := (fun l r => Host.dotGeneral dot_S8x1024x64_S8x1024x64_S8x1024x1024_2_2_1_1_0_0 none l r) main_v1 main_v3
  let main_cst_1 : FVec F S_ .f32 := constant S_ .f32 0x40000000#32
  let main_v14 : FVec F S8x1024x1024 .f32 := broadcastInDim S8x1024x1024 ![] bcast_S_S8x1024x1024 main_cst_1
  let main_v15 : FVec F S8x1024x1024 .f32 := mulf main_v14 main_v13
  let main_v16 : FVec F S8x1024x1024 .f32 := subf main_v12 main_v15
  let main_cst_2 : FVec F S_ .f32 := constant S_ .f32 0x00000000#32
  let main_v17 : FVec F S8x1024x1024 .f32 := broadcastInDim S8x1024x1024 ![] bcast_S_S8x1024x1024 main_cst_2
  let main_v18 : FVec F S8x1024x1024 .f32 := maximumf main_v16 main_v17
  let main_v19 : FVec F S8x1024x1024 .f32 := Host.sqrt main_v18
  fn_part1 (F := F) main_v19
-- ==== Kernel.lean ====
abbrev S8x64x32x32 : Shape := ⟨4, ![8, 64, 32, 32]⟩
abbrev S1024x64 : Shape := ⟨2, ![1024, 64]⟩
abbrev S8x64x1024 : Shape := ⟨3, ![8, 64, 1024]⟩
abbrev S8x128x64 : Shape := ⟨3, ![8, 128, 64]⟩
abbrev S8x1024x64 : Shape := ⟨3, ![8, 1024, 64]⟩
abbrev S1x1 : Shape := ⟨2, ![1, 1]⟩
abbrev S_ : Shape := ⟨0, ![]⟩
abbrev S4x64x1024 : Shape := ⟨3, ![4, 64, 1024]⟩
abbrev S4x1024x64 : Shape := ⟨3, ![4, 1024, 64]⟩
abbrev S1024 : Shape := ⟨1, ![1024]⟩
abbrev S1x1024 : Shape := ⟨2, ![1, 1024]⟩
abbrev S1x64x1024 : Shape := ⟨3, ![1, 64, 1024]⟩
abbrev S64x1024 : Shape := ⟨2, ![64, 1024]⟩
abbrev S1024x1 : Shape := ⟨2, ![1024, 1]⟩
abbrev S1024x1024 : Shape := ⟨2, ![1024, 1024]⟩
abbrev S1x1024x64 : Shape := ⟨3, ![1, 1024, 64]⟩
abbrev S1 : Shape := ⟨1, ![1]⟩
abbrev S1x1x1 : Shape := ⟨3, ![1, 1, 1]⟩

abbrev nBuf : Space → Nat
  | .hbm => 17
  | .vmem => 8
  | .smem => 0
  | _ => 0

abbrev bufTy : (tb : Table) → Fin (tcTables nBuf tb) → BufTy
  | .hbm, ⟨0, _⟩ => ⟨S8x64x32x32, .f32⟩
  | .hbm, ⟨1, _⟩ => ⟨S1024x64, .f32⟩
  | .hbm, ⟨2, _⟩ => ⟨S8x64x1024, .f32⟩
  | .hbm, ⟨3, _⟩ => ⟨S8x128x64, .f32⟩
  | .hbm, ⟨4, _⟩ => ⟨S8x128x64, .f32⟩
  | .hbm, ⟨5, _⟩ => ⟨S1024x64, .f32⟩
  | .hbm, ⟨6, _⟩ => ⟨S8x1024x64, .f32⟩
  | .hbm, ⟨7, _⟩ => ⟨S8x64x1024, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x64x32x32, .f32⟩
  | .hbm, ⟨16, _⟩ => ⟨S8x64x32x32, .f32⟩
  | .local _ .vmem, ⟨0, _⟩ => ⟨S4x64x1024, .f32⟩
  | .local _ .vmem, ⟨1, _⟩ => ⟨S4x64x1024, .f32⟩
  | .local _ .vmem, ⟨2, _⟩ => ⟨S1024x64, .f32⟩
  | .local _ .vmem, ⟨3, _⟩ => ⟨S4x1024x64, .f32⟩
  | .local _ .vmem, ⟨4, _⟩ => ⟨S4x1024x64, .f32⟩
  | .local _ .vmem, ⟨5, _⟩ => ⟨S4x64x1024, .f32⟩
  | .local _ .vmem, ⟨6, _⟩ => ⟨S4x64x1024, .f32⟩
  | .local _ .vmem, ⟨7, _⟩ => ⟨S1x1, .f32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4_0 : Ref sig .tc := ⟨.hbm, 6, rfl⟩
abbrev main_call0_v4_1 : Ref sig .tc := ⟨.hbm, 7, rfl⟩
abbrev main_call0_v4_2 : Ref sig .tc := ⟨.hbm, 8, rfl⟩
abbrev main_call0_v5 : Ref sig .tc := ⟨.hbm, 9, rfl⟩
abbrev main_call0_cst : Ref sig .tc := ⟨.hbm, 10, rfl⟩
abbrev main_v0_1 : Ref sig .tc := ⟨.hbm, 11, rfl⟩
abbrev main_call0_cst_0 : Ref sig .tc := ⟨.hbm, 12, rfl⟩
abbrev main_call0_v7 : Ref sig .tc := ⟨.hbm, 13, rfl⟩
abbrev main_v0_3 : Ref sig .tc := ⟨.hbm, 14, rfl⟩
abbrev main_v0_0 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x64x32x32 : Shape := ⟨4, ![8, 64, 32, 32]⟩
abbrev S1024x64 : Shape := ⟨2, ![1024, 64]⟩
abbrev S8x32x32x64 : Shape := ⟨4, ![8, 32, 32, 64]⟩
abbrev S8x1024x64 : Shape := ⟨3, ![8, 1024, 64]⟩
abbrev S1x1024x64 : Shape := ⟨3, ![1, 1024, 64]⟩
abbrev S_ : Shape := ⟨0, ![]⟩
abbrev S8x1024 : Shape := ⟨2, ![8, 1024]⟩
abbrev S8x1024x1 : Shape := ⟨3, ![8, 1024, 1]⟩
abbrev S8x1x1024 : Shape := ⟨3, ![8, 1, 1024]⟩
abbrev S8x1024x1024 : Shape := ⟨3, ![8, 1024, 1024]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S8192x64 : Shape := ⟨2, ![8192, 64]⟩

abbrev nBuf : Space → Nat
  | .hbm => 76
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S1024x64, .f32⟩
  | .hbm, ⟨2, _⟩ => ⟨S8x32x32x64, .f32⟩
  | .hbm, ⟨3, _⟩ => ⟨S8x1024x64, .f32⟩
  | .hbm, ⟨4, _⟩ => ⟨S1x1024x64, .f32⟩
  | .hbm, ⟨5, _⟩ => ⟨S8x1024x64, .f32⟩
  | .hbm, ⟨6, _⟩ => ⟨S8x1024x64, .f32⟩
  | .hbm, ⟨7, _⟩ => ⟨S_, .f32⟩
  | .hbm, ⟨8, _⟩ => ⟨S8x1024, .f32⟩
  | .hbm, ⟨9, _⟩ => ⟨S8x1024x1, .f32⟩
  | .hbm, ⟨10, _⟩ => ⟨S8x1024x64, .f32⟩
  | .hbm, ⟨11, _⟩ => ⟨S_, .f32⟩
  | .hbm, ⟨12, _⟩ => ⟨S8x1024, .f32⟩
  | .hbm, ⟨13, _⟩ => ⟨S8x1x1024, .f32⟩
  | .hbm, ⟨14, _⟩ => ⟨S8x1024x1024, .f32⟩
  | .hbm, ⟨15, _⟩ => ⟨S8x1024x1024, .f32⟩
  | .hbm, ⟨16, _⟩ => ⟨S8x1024x1024, .f32⟩
  | .hbm, ⟨17, _⟩ => ⟨S8x1024x1024, .f32⟩
  | .hbm, ⟨18, _⟩ => ⟨S_, .f32⟩
  | .hbm, ⟨19, _⟩ => ⟨S8x1024x1024, .f32⟩
  | .hbm, ⟨20, _⟩ => ⟨S8x1024x1024, .f32⟩
  | .hbm, ⟨21, _⟩ => ⟨S8x1024x1024, .f32⟩
  | .hbm, ⟨22, _⟩ => ⟨S_, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S8x1024x1024, .i32⟩
  | .hbm, ⟨27, _⟩ => ⟨S_, .f32⟩
  | .hbm, ⟨28, _⟩ => ⟨S_, .i32⟩
  | .hbm, ⟨29, _⟩ => ⟨S8x1024, .f32⟩
  | .hbm, ⟨30, _⟩ => ⟨S8x1024, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S1, .i32⟩
  | .hbm, ⟨41, _⟩ => ⟨S_, .i32⟩
  | .hbm, ⟨42, _⟩ => ⟨S8192x1, .i32⟩
  | .hbm, ⟨43, _⟩ => ⟨S8192x1, .i1⟩
  | .hbm, ⟨44, _⟩ => ⟨S1x1, .i32⟩
  | .hbm, ⟨45, _⟩ => ⟨S8192x1, .i32⟩
  | .hbm, ⟨46, _⟩ => ⟨S8192x1, .i1⟩
  | .hbm, ⟨47, _⟩ => ⟨S8192x1, .i1⟩
  | .hbm, ⟨48, _⟩ => ⟨S_, .i1⟩
  | .hbm, ⟨49, _⟩ => ⟨S8192, .i1⟩
  | .hbm, ⟨50, _⟩ => ⟨S8192x64, .f32⟩
  | .hbm, ⟨51, _⟩ => ⟨S8192x64, .i1⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S8x32x32x64, .f32⟩
  | .hbm, ⟨56, _⟩ => ⟨S8x32x32x64, .f32⟩
  | .hbm, ⟨57, _⟩ => ⟨S8x32x32x64, .f32⟩
  | .hbm, ⟨58, _⟩ => ⟨S8x32x32x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x32x32x64, .f32⟩
  | .hbm, ⟨64, _⟩ => ⟨S8x32x32x64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8x32x32x64, .f32⟩
  | .hbm, ⟨73, _⟩ => ⟨S8x32x32x64, .f32⟩
  | .hbm, ⟨74, _⟩ => ⟨S8x64x32x32, .f32⟩
  | .hbm, ⟨75, _⟩ => ⟨S8x64x32x32, .f32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v20 : Ref sig .tc := ⟨.hbm, 30, rfl⟩
abbrev main_v21 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_3 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩

abbrev nD : Nat := 1
abbrev τ : Topo := Topo.v7x

variable {F : FTy → Type} [FloatOps F]
-- ==== Proof.KernelRun.lean ====
/- The run of the whole idealized kernel: the five results as functions of the three arrays the grid leaves, and the
   arguments unchanged. -/
module

public import proofs.«01_k».proof.Defs
public import proofs.«01_k».proof.Proof.Gen.KernelIdeal.Frame
public import Idealize.ShloMosaic.Lib.Pipeline.Value

@[expose] public section

set_option maxRecDepth 16384

noncomputable section

namespace Cert.Vq.Run

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The host operations before the region -/

/-- The input with its two image axes joined. -/
def flatX (x : FVec Ideal S8x64x32x32 .f32) : FVec Ideal S8x64x1024 .f32 :=
  shapeCast S8x64x1024 x shapeCasts_S8x64x32x32_S8x64x1024

/-- The codebook with every group of 128 rows reversed. -/
def flipped (e : FVec Ideal S1024x64 .f32) : FVec Ideal S1024x64 .f32 :=
  shapeCast S1024x64 (Host.reverse [1] (shapeCast S8x128x64 e shapeCasts_S1024x64_S8x128x64)) shapeCasts_S8x128x64_S1024x64

/-- The lines before the grid leave the input with rows and columns joined. -/
theorem pre_x (V : Valuation τ sig (Elt Ideal)) :
    after (hostOps0 (F := Ideal)) V (Proc.devRef .tc main_call0_v0) = flatX (V (Proc.devRef .tc main_arg0)) := by
  simp only [hostOps0, TRef.reshape, TRef.binary, TRef.nullary, TRef.unary, TRef.toBuf, TRef.ofBuf, cast_eq]
  after_results <;> rfl

/-- The lines before the grid leave the codebook with every group of 128 rows reversed. -/
theorem pre_e (V : Valuation τ sig (Elt Ideal)) :
    after (hostOps0 (F := Ideal)) V (Proc.devRef .tc main_call0_v3) = flipped (V (Proc.devRef .tc main_arg1)) := by
  simp only [hostOps0, TRef.reshape, TRef.binary, TRef.nullary, TRef.unary, TRef.toBuf, TRef.ofBuf, cast_eq]
  after_results <;> rfl

/-- What the grid's first window is cut from, as a function of the argument. -/
theorem V_x (c : Dev nD) : V m c main_call0_v0 = flatX (m ((c : Thread nD τ).loc main_arg0)) := by
  show after (List.flatten [hostOps0]) _ _ = _
  rw [List.flatten_cons, List.flatten_nil, List.append_nil, pre_x]

/-- What the grid's second window is cut from, as a function of the argument. -/
theorem V_e (c : Dev nD) : V m c main_call0_v3 = flipped (m ((c : Thread nD τ).loc main_arg1)) := by
  show after (List.flatten [hostOps0]) _ _ = _
  rw [List.flatten_cons, List.flatten_nil, List.append_nil, pre_e]

/-! ## The host operations after the region -/

/-- The mean of the accumulated loss. -/
def meanOf (l : FVec Ideal S1x1 .f32) : FVec Ideal S_ .f32 :=
  Host.divf (shapeCast S_ l shapeCasts_S1x1_S_) (constant S_ .f32 0x49000000#32)

/-- The lines after the grid split the positions of the straight-through array into rows and columns. -/
theorem post_v0_0 (V : Valuation τ sig (Elt Ideal)) :
    after (hostOps1 (F := Ideal)) V (Proc.devRef .tc main_v0_0)
      = shapeCast S8x64x32x32 (V (Proc.devRef .tc main_call0_v4_1)) shapeCasts_S8x64x1024_S8x64x32x32 := by
  simp only [hostOps1, TRef.reshape, TRef.binary, TRef.nullary, TRef.unary, TRef.toBuf, TRef.ofBuf, cast_eq]
  after_results <;> rfl

/-- The lines after the grid divide the total by the number of elements. -/
theorem post_v0_1 (V : Valuation τ sig (Elt Ideal)) :
    after (hostOps1 (F := Ideal)) V (Proc.devRef .tc main_v0_1) = meanOf (V (Proc.devRef .tc main_call0_v4_2)) := by
  simp only [hostOps1, TRef.reshape, TRef.binary, TRef.nullary, TRef.unary, TRef.toBuf, TRef.ofBuf, cast_eq]
  after_results <;> rfl

/-- The lines after the grid add a fifth of the mean to the mean. -/
theorem post_v0_3 (V : Valuation τ sig (Elt Ideal)) :
    after (hostOps1 (F := Ideal)) V (Proc.devRef .tc main_v0_3)
      = addf (mulf (constant S_ .f32 0x3E4CCCCD#32) (meanOf (V (Proc.devRef .tc main_call0_v4_2))))
          (meanOf (V (Proc.devRef .tc main_call0_v4_2))) := by
  simp only [hostOps1, TRef.reshape, TRef.binary, TRef.nullary, TRef.unary, TRef.toBuf, TRef.ofBuf, cast_eq]
  after_results <;> rfl

/-- The lines after the grid reshape the rows picked. -/
theorem post_v0_4 (V : Valuation τ sig (Elt Ideal)) :
    after (hostOps1 (F := Ideal)) V (Proc.devRef .tc main_v0_4)
      = shapeCast S8x64x32x32 (V (Proc.devRef .tc main_call0_v4_0)) shapeCasts_S8x1024x64_S8x64x32x32 := by
  simp only [hostOps1, TRef.reshape, TRef.binary, TRef.nullary, TRef.unary, TRef.toBuf, TRef.ofBuf, cast_eq]
  after_results <;> rfl

/-! ## The run -/

/-- The chosen rows, as the grid leaves them. -/
def outQ (c : Dev nD) : FVec Ideal S8x1024x64 .f32 := (dats m 0 c).arrAt 2 cfg0.N
/-- The straight-through array, as the grid leaves it. -/
def outS (c : Dev nD) : FVec Ideal S8x64x1024 .f32 := (dats m 0 c).arrAt 3 cfg0.N
/-- The accumulated loss, as the grid leaves it. -/
def outL (c : Dev nD) : FVec Ideal S1x1 .f32 := (dats m 0 c).arrAt 4 cfg0.N

/-- What an array of the grid holds when the host operations after the region start. -/
theorem region_arr (c : Dev nD) (w : Fin cfg0.W) :
    Pipeline.withArrays (cfgs 0).spec c (V0 m c) (fun w => (dats m 0 c).arrAt w (cfgs 0).N)
      (Proc.devRef .tc (Pipeline.arrRef spec0 w)) = (dats m 0 c).arrAt w cfg0.N :=
  Pipeline.withArrays_arr spec0 launch0.win.arr_inj c (V0 m c) _ w

/-- From any memory with zero counters every weakly fair execution ends, with the five results at the named functions
    of the three arrays the grid leaves, and the arguments unchanged. -/
theorem run : θ_run (defs (F := Ideal)) (onTc (τ := τ) (main (F := Ideal))) ⟨m, fun _ => 0, ρ⟩ fun r => ∀ c : Dev nD,
      r.2.mem ((c.tc : Thread nD τ).loc main_v0_0) = shapeCast S8x64x32x32 (outS m c) shapeCasts_S8x64x1024_S8x64x32x32
      ∧ r.2.mem ((c.tc : Thread nD τ).loc main_v0_1) = meanOf (outL m c)
      ∧ r.2.mem ((c.tc : Thread nD τ).loc main_v0_1) = meanOf (outL m c)
      ∧ r.2.mem ((c.tc : Thread nD τ).loc main_v0_3)
          = addf (mulf (constant S_ .f32 0x3E4CCCCD#32) (meanOf (outL m c))) (meanOf (outL m c))
      ∧ r.2.mem ((c.tc : Thread nD τ).loc main_v0_4) = shapeCast S8x64x32x32 (outQ m c) shapeCasts_S8x1024x64_S8x64x32x32
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main (F := Ideal) m ρ)
  have hq := region_arr m c 2
  have hs := region_arr m c 3
  have hl := region_arr m c 4
  have h1 := ((h c).2 main_v0_1 (Pipeline.mem_restRefs_of main_v0_1 (by decide) (by decide))).trans
    ((post_v0_1 _).trans (congrArg meanOf hl))
  refine ⟨((h c).2 main_v0_0 (Pipeline.mem_restRefs_of main_v0_0 (by decide) (by decide))).trans
      ((post_v0_0 _).trans (congrArg (fun a => shapeCast S8x64x32x32 a shapeCasts_S8x64x1024_S8x64x32x32) hs)), h1, h1,
    ((h c).2 main_v0_3 (Pipeline.mem_restRefs_of main_v0_3 (by decide) (by decide))).trans
      ((post_v0_3 _).trans (congrArg (fun l => addf (mulf (constant S_ .f32 0x3E4CCCCD#32) (meanOf l)) (meanOf l)) hl)),
    ((h c).2 main_v0_4 (Pipeline.mem_restRefs_of main_v0_4 (by decide) (by decide))).trans
      ((post_v0_4 _).trans (congrArg (fun a => shapeCast S8x64x32x32 a shapeCasts_S8x1024x64_S8x64x32x32) hq)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩

end Cert.Vq.Run

end
-- ==== Proof.RefOps.lean ====
/- The reference program as four lists of host operations, run one after another, and the arrays each list
   computes, named. -/
module

public import proofs.«01_k».proof.Defs
public import proofs.«01_k».proof.Proof.Gen.ReferenceIdeal
public import Idealize.ShloMosaic.Lib.StableHlo.Run

@[expose] public section

set_option maxRecDepth 16384

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- The operations through the distances. -/
def opsDist : List (HloOp τ sig (Elt F)) :=
  [ unary main_arg0 main_v0 ((transpose S8x32x32x64 [0, 2, 3, 1] · transposes_S8x64x32x32_S8x32x32x64_0_2_3_1) : (⟨S8x64x32x32, .f32⟩ : BufTy).Contents (Elt F) → (⟨S8x32x32x64, .f32⟩ : BufTy).Contents (Elt F)),
    reshape main_v0 main_v1 (rfl : (.f32 : EltTy) = .f32) shapeCasts_S8x32x32x64_S8x1024x64,
    unary main_arg1 main_v2 (broadcastInDim S1x1024x64 ![1, 2] bcast_S1024x64_S1x1024x64_1_2 : (⟨S1024x64, .f32⟩ : BufTy).Contents (Elt F) → (⟨S1x1024x64, .f32⟩ : BufTy).Contents (Elt F)),
    unary main_v2 main_v3 (broadcastInDim S8x1024x64 ![0, 1, 2] bcast_S1x1024x64_S8x1024x64_0_1_2 : (⟨S1x1024x64, .f32⟩ : BufTy).Contents (Elt F) → (⟨S8x1024x64, .f32⟩ : BufTy).Contents (Elt F)),
    binary main_v1 main_v1 main_v4 (mulf : (⟨S8x1024x64, .f32⟩ : BufTy).Contents (Elt F) → (⟨S8x1024x64, .f32⟩ : BufTy).Contents (Elt F) → (⟨S8x1024x64, .f32⟩ : BufTy).Contents (Elt F)),
    nullary main_cst (constant S_ .f32 0x00000000#32),
    binary main_v4 main_cst main_v5 ((fun x v => Host.reduceAdd x v reducesTo_S8x1024x64_S8x1024_d2 h_S_) : (⟨S8x1024x64, .f32⟩ : BufTy).Contents (Elt F) → (⟨S_, .f32⟩ : BufTy).Contents (Elt F) → (⟨S8x1024, .f32⟩ : BufTy).Contents (Elt F)),
    unary main_v5 main_v6 (broadcastInDim S8x1024x1 ![0, 1] bcast_S8x1024_S8x1024x1_0_1 : (⟨S8x1024, .f32⟩ : BufTy).Contents (Elt F) → (⟨S8x1024x1, .f32⟩ : BufTy).Contents (Elt F)),
    binary main_v3 main_v3 main_v7 (mulf : (⟨S8x1024x64, .f32⟩ : BufTy).Contents (Elt F) → (⟨S8x1024x64, .f32⟩ : BufTy).Contents (Elt F) → (⟨S8x1024x64, .f32⟩ : BufTy).Contents (Elt F)),
    nullary main_cst_0 (constant S_ .f32 0x00000000#32),
    binary main_v7 main_cst_0 main_v8 ((fun x v => Host.reduceAdd x v reducesTo_S8x1024x64_S8x1024_d2 h_S_) : (⟨S8x1024x64, .f32⟩ : BufTy).Contents (Elt F) → (⟨S_, .f32⟩ : BufTy).Contents (Elt F) → (⟨S8x1024, .f32⟩ : BufTy).Contents (Elt F)),
    unary main_v8 main_v9 (broadcastInDim S8x1x1024 ![0, 2] bcast_S8x1024_S8x1x1024_0_2 : (⟨S8x1024, .f32⟩ : BufTy).Contents (Elt F) → (⟨S8x1x1024, .f32⟩ : BufTy).Contents (Elt F)),
    unary main_v6 main_v10 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    unary main_v9 main_v11 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    binary main_v10 main_v11 main_v12 (addf : (⟨S8x1024x1024, .f32⟩ : BufTy).Contents (Elt F) → (⟨S8x1024x1024, .f32⟩ : BufTy).Contents (Elt F) → (⟨S8x1024x1024, .f32⟩ : BufTy).Contents (Elt F)),
    binary main_v1 main_v3 main_v13 ((fun l r => Host.dotGeneral dot_S8x1024x64_S8x1024x64_S8x1024x1024_2_2_1_1_0_0 none l r) : (⟨S8x1024x64, .f32⟩ : BufTy).Contents (Elt F) → (⟨S8x1024x64, .f32⟩ : BufTy).Contents (Elt F) → (⟨S8x1024x1024, .f32⟩ : BufTy).Contents (Elt F)),
    nullary main_cst_1 (constant S_ .f32 0x40000000#32),
    unary main_cst_1 main_v14 (broadcastInDim S8x1024x1024 ![] bcast_S_S8x1024x1024 : (⟨S_, .f32⟩ : BufTy).Contents (Elt F) → (⟨S8x1024x1024, .f32⟩ : BufTy).Contents (Elt F)),
    binary main_v14 main_v13 main_v15 (mulf : (⟨S8x1024x1024, .f32⟩ : BufTy).Contents (Elt F) → (⟨S8x1024x1024, .f32⟩ : BufTy).Contents (Elt F) → (⟨S8x1024x1024, .f32⟩ : BufTy).Contents (Elt F)),
    binary main_v12 main_v15 main_v16 (subf : (⟨S8x1024x1024, .f32⟩ : BufTy).Contents (Elt F) → (⟨S8x1024x1024, .f32⟩ : BufTy).Contents (Elt F) → (⟨S8x1024x1024, .f32⟩ : BufTy).Contents (Elt F)),
    nullary main_cst_2 (constant S_ .f32 0x00000000#32),
    unary main_cst_2 main_v17 (broadcastInDim S8x1024x1024 ![] bcast_S_S8x1024x1024 : (⟨S_, .f32⟩ : BufTy).Contents (Elt F) → (⟨S8x1024x1024, .f32⟩ : BufTy).Contents (Elt F)),
    binary main_v16 main_v17 main_v18 (maximumf : (⟨S8x1024x1024, .f32⟩ : BufTy).Contents (Elt F) → (⟨S8x1024x1024, .f32⟩ : BufTy).Contents (Elt F) → (⟨S8x1024x1024, .f32⟩ : BufTy).Contents (Elt F)),
    unary main_v18 main_v19 (Host.sqrt : (⟨S8x1024x1024, .f32⟩ : BufTy).Contents (Elt F) → (⟨S8x1024x1024, .f32⟩ : BufTy).Contents (Elt F)) ]

/-- The nearest row of every position. -/
def opsArg : List (HloOp τ sig (Elt F)) :=
  [ TRef.nullary (TRef.of (T := ⟨S8x1024x1024, .i32⟩) main_call0_v0) (iotaInDim S8x1024x1024 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S8x1024x1024, .f32⟩) main_v19) (TRef.of (T := ⟨S8x1024x1024, .i32⟩) main_call0_v0) (TRef.of (T := ⟨S_, .f32⟩) main_call0_cst) (TRef.of (T := ⟨S_, .i32⟩) main_call0_c) (TRef.of (T := ⟨S8x1024, .f32⟩) main_call0_v1_0) (fun x y u v j => (Host.argReduce reducer_argmin_f32_i32 x y u v reducesTo_S8x1024x1024_S8x1024_d2 h_S_ j).1),
    TRef.quaternary (TRef.of (T := ⟨S8x1024x1024, .f32⟩) main_v19) (TRef.of (T := ⟨S8x1024x1024, .i32⟩) main_call0_v0) (TRef.of (T := ⟨S_, .f32⟩) main_call0_cst) (TRef.of (T := ⟨S_, .i32⟩) main_call0_c) (TRef.of (T := ⟨S8x1024, .i32⟩) main_v20) (fun x y u v j => (Host.argReduce reducer_argmin_f32_i32 x y u v reducesTo_S8x1024x1024_S8x1024_d2 h_S_ j).2) ]

/-- The indices flattened and the rows taken. -/
def opsTake : List (HloOp τ sig (Elt F)) :=
  [ reshape main_v20 main_v21 (rfl : (.i32 : EltTy) = .i32) shapeCasts_S8x1024_S8192,
    TRef.nullary (TRef.of (T := ⟨S_, .i32⟩) main_call1_c) (constantI S_ 32 0#32),
    TRef.unary (TRef.of (T := ⟨S_, .i32⟩) main_call1_c) (TRef.of (T := ⟨S8192, .i32⟩) main_call1_v0) (broadcastInDim S8192 ![] bcast_S_S8192),
    TRef.binary (TRef.of (T := ⟨S8192, .i32⟩) main_v21) (TRef.of (T := ⟨S8192, .i32⟩) main_call1_v0) (TRef.of (T := ⟨S8192, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S8192, .i32⟩) main_call1_v2) (broadcastInDim S8192 ![] bcast_S_S8192),
    TRef.binary (TRef.of (T := ⟨S8192, .i32⟩) main_v21) (TRef.of (T := ⟨S8192, .i32⟩) main_call1_v2) (TRef.of (T := ⟨S8192, .i32⟩) main_call1_v3) addi,
    TRef.ternary (TRef.of (T := ⟨S8192, .i1⟩) main_call1_v1) (TRef.of (T := ⟨S8192, .i32⟩) main_call1_v3) (TRef.of (T := ⟨S8192, .i32⟩) main_v21) (TRef.of (T := ⟨S8192, .i32⟩) main_call1_v4) select,
    TRef.unary (TRef.of (T := ⟨S8192, .i32⟩) main_call1_v4) (TRef.of (T := ⟨S8192x1, .i32⟩) main_call1_v5) (broadcastInDim S8192x1 ![0] bcast_S8192_S8192x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S8192x1, .i32⟩) main_call1_v6) (broadcastInDim S8192x1 ![] bcast_S_S8192x1),
    TRef.binary (TRef.of (T := ⟨S8192x1, .i32⟩) main_call1_v5) (TRef.of (T := ⟨S8192x1, .i32⟩) main_call1_v6) (TRef.of (T := ⟨S8192x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S8192x1, .i32⟩) main_call1_v9) (broadcastInDim S8192x1 ![0, 1] bcast_S1x1_S8192x1_0_1),
    TRef.binary (TRef.of (T := ⟨S8192x1, .i32⟩) main_call1_v5) (TRef.of (T := ⟨S8192x1, .i32⟩) main_call1_v9) (TRef.of (T := ⟨S8192x1, .i1⟩) main_call1_v10) (cmpi .sle),
    TRef.binary (TRef.of (T := ⟨S8192x1, .i1⟩) main_call1_v7) (TRef.of (T := ⟨S8192x1, .i1⟩) main_call1_v10) (TRef.of (T := ⟨S8192x1, .i1⟩) main_call1_v11) andi,
    TRef.nullary (TRef.of (T := ⟨S_, .i1⟩) main_call1_c_3) (constantI S_ 1 1#1),
    TRef.binary (TRef.of (T := ⟨S8192x1, .i1⟩) main_call1_v11) (TRef.of (T := ⟨S_, .i1⟩) main_call1_c_3) (TRef.of (T := ⟨S8192, .i1⟩) main_call1_v12) (fun x v => Host.reduce IntOp.andi x v reducesTo_S8192x1_S8192_d1 h_S_),
    TRef.binary (TRef.of (T := ⟨S1024x64, .f32⟩) main_arg1) (TRef.of (T := ⟨S8192x1, .i32⟩) main_call1_v5) (TRef.of (T := ⟨S8192x64, .f32⟩) main_call1_v13) (fun x i => Host.gather gather_S1024x64_S8192x1_S8192x64_1_0_n_n_0_1_164 x i),
    TRef.unary (TRef.of (T := ⟨S8192, .i1⟩) main_call1_v12) (TRef.of (T := ⟨S8192x64, .i1⟩) main_call1_v14) (broadcastInDim S8192x64 ![0] bcast_S8192_S8192x64_0),
    TRef.nullary (TRef.of (T := ⟨S_, .f32⟩) main_call1_cst) (constant S_ .f32 0x7FC00000#32),
    TRef.unary (TRef.of (T := ⟨S_, .f32⟩) main_call1_cst) (TRef.of (T := ⟨S8192x64, .f32⟩) main_call1_v15) (broadcastInDim S8192x64 ![] bcast_S_S8192x64),
    TRef.ternary (TRef.of (T := ⟨S8192x64, .i1⟩) main_call1_v14) (TRef.of (T := ⟨S8192x64, .f32⟩) main_call1_v13) (TRef.of (T := ⟨S8192x64, .f32⟩) main_call1_v15) (TRef.of (T := ⟨S8192x64, .f32⟩) main_v22) select ]

/-- The losses and the three array results. -/
def opsTail : List (HloOp τ sig (Elt F)) :=
  [ reshape main_v22 main_v23 (rfl : (.f32 : EltTy) = .f32) shapeCasts_S8192x64_S8x32x32x64,
    reshape main_v1 main_v24 (rfl : (.f32 : EltTy) = .f32) shapeCasts_S8x1024x64_S8x32x32x64,
    binary main_v24 main_v23 main_v25 (subf : (⟨S8x32x32x64, .f32⟩ : BufTy).Contents (Elt F) → (⟨S8x32x32x64, .f32⟩ : BufTy).Contents (Elt F) → (⟨S8x32x32x64, .f32⟩ : BufTy).Contents (Elt F)),
    binary main_v25 main_v25 main_v26 (mulf : (⟨S8x32x32x64, .f32⟩ : BufTy).Contents (Elt F) → (⟨S8x32x32x64, .f32⟩ : BufTy).Contents (Elt F) → (⟨S8x32x32x64, .f32⟩ : BufTy).Contents (Elt F)),
    nullary main_cst_3 (constant S_ .f32 0x00000000#32),
    binary main_v26 main_cst_3 main_v27 ((fun x v => Host.reduceAdd x v reducesTo_S8x32x32x64_S_d0_1_2_3 h_S_) : (⟨S8x32x32x64, .f32⟩ : BufTy).Contents (Elt F) → (⟨S_, .f32⟩ : BufTy).Contents (Elt F) → (⟨S_, .f32⟩ : BufTy).Contents (Elt F)),
    nullary main_cst_4 (constant S_ .f32 0x49000000#32),
    binary main_v27 main_cst_4 main_v28 (Host.divf : (⟨S_, .f32⟩ : BufTy).Contents (Elt F) → (⟨S_, .f32⟩ : BufTy).Contents (Elt F) → (⟨S_, .f32⟩ : BufTy).Contents (Elt F)),
    binary main_v24 main_v23 main_v29 (subf : (⟨S8x32x32x64, .f32⟩ : BufTy).Contents (Elt F) → (⟨S8x32x32x64, .f32⟩ : BufTy).Contents (Elt F) → (⟨S8x32x32x64, .f32⟩ : BufTy).Contents (Elt F)),
    binary main_v29 main_v29 main_v30 (mulf : (⟨S8x32x32x64, .f32⟩ : BufTy).Contents (Elt F) → (⟨S8x32x32x64, .f32⟩ : BufTy).Contents (Elt F) → (⟨S8x32x32x64, .f32⟩ : BufTy).Contents (Elt F)),
    nullary main_cst_5 (constant S_ .f32 0x00000000#32),
    binary main_v30 main_cst_5 main_v31 ((fun x v => Host.reduceAdd x v reducesTo_S8x32x32x64_S_d0_1_2_3 h_S_) : (⟨S8x32x32x64, .f32⟩ : BufTy).Contents (Elt F) → (⟨S_, .f32⟩ : BufTy).Contents (Elt F) → (⟨S_, .f32⟩ : BufTy).Contents (Elt F)),
    nullary main_cst_6 (constant S_ .f32 0x49000000#32),
    binary main_v31 main_cst_6 main_v32 (Host.divf : (⟨S_, .f32⟩ : BufTy).Contents (Elt F) → (⟨S_, .f32⟩ : BufTy).Contents (Elt F) → (⟨S_, .f32⟩ : BufTy).Contents (Elt F)),
    nullary main_cst_7 (constant S_ .f32 0x3E4CCCCD#32),
    binary main_cst_7 main_v28 main_v33 (mulf : (⟨S_, .f32⟩ : BufTy).Contents (Elt F) → (⟨S_, .f32⟩ : BufTy).Contents (Elt F) → (⟨S_, .f32⟩ : BufTy).Contents (Elt F)),
    binary main_v33 main_v32 main_v34 (addf : (⟨S_, .f32⟩ : BufTy).Contents (Elt F) → (⟨S_, .f32⟩ : BufTy).Contents (Elt F) → (⟨S_, .f32⟩ : BufTy).Contents (Elt F)),
    binary main_v23 main_v24 main_v35 (subf : (⟨S8x32x32x64, .f32⟩ : BufTy).Contents (Elt F) → (⟨S8x32x32x64, .f32⟩ : BufTy).Contents (Elt F) → (⟨S8x32x32x64, .f32⟩ : BufTy).Contents (Elt F)),
    binary main_v24 main_v35 main_v36 (addf : (⟨S8x32x32x64, .f32⟩ : BufTy).Contents (Elt F) → (⟨S8x32x32x64, .f32⟩ : BufTy).Contents (Elt F) → (⟨S8x32x32x64, .f32⟩ : BufTy).Contents (Elt F)),
    unary main_v36 main_v37 ((transpose S8x64x32x32 [0, 3, 1, 2] · transposes_S8x32x32x64_S8x64x32x32_0_3_1_2) : (⟨S8x32x32x64, .f32⟩ : BufTy).Contents (Elt F) → (⟨S8x64x32x32, .f32⟩ : BufTy).Contents (Elt F)),
    reshape main_v23 main_v38 (rfl : (.f32 : EltTy) = .f32) shapeCasts_S8x32x32x64_S8x64x32x32 ]

/-- The lines of the distances touch only the program's own buffers. -/
theorem opsDist_sub : (opsDist : List (HloOp τ sig (Elt F))).Forall fun op => op.bufs ⊆ tcRefs τ sig := by
  unfold opsDist
  exact ⟨unary_bufs_sub .., reshape_bufs_sub .., unary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub ..⟩

/-- The lines of the arg-min touch only the program's own buffers. -/
theorem opsArg_sub : (opsArg : List (HloOp τ sig (Elt F))).Forall fun op => op.bufs ⊆ tcRefs τ sig := by
  unfold opsArg
  exact ⟨nullary_bufs_sub .., nullary_bufs_sub .., nullary_bufs_sub .., quaternary_bufs_sub .., quaternary_bufs_sub ..⟩

/-- The lines that take the rows touch only the program's own buffers. -/
theorem opsTake_sub : (opsTake : List (HloOp τ sig (Elt F))).Forall fun op => op.bufs ⊆ tcRefs τ sig := by
  unfold opsTake
  exact ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The last lines touch only the program's own buffers. -/
theorem opsTail_sub : (opsTail : List (HloOp τ sig (Elt F))).Forall fun op => op.bufs ⊆ tcRefs τ sig := by
  unfold opsTail
  exact ⟨reshape_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., reshape_bufs_sub ..⟩

/-- The positions of the input, one row of 64 numbers each. -/
def patches (x : FVec Ideal S8x64x32x32 .f32) : FVec Ideal S8x1024x64 .f32 :=
  shapeCast S8x1024x64 (transpose S8x32x32x64 [0, 2, 3, 1] x transposes_S8x64x32x32_S8x32x32x64_0_2_3_1)
    shapeCasts_S8x32x32x64_S8x1024x64

/-- The codebook, once per batch. -/
def books (e : FVec Ideal S1024x64 .f32) : FVec Ideal S8x1024x64 .f32 :=
  broadcastInDim S8x1024x64 ![0, 1, 2] bcast_S1x1024x64_S8x1024x64_0_1_2
    (broadcastInDim S1x1024x64 ![1, 2] bcast_S1024x64_S1x1024x64_1_2 e)

/-- The distance of every position to every row. -/
def distances (p b : FVec Ideal S8x1024x64 .f32) : FVec Ideal S8x1024x1024 .f32 :=
  Host.sqrt (maximumf
    (subf
      (addf
        (broadcastInDim S8x1024x1024 ![0, 1, 2] bcast_S8x1024x1_S8x1024x1024_0_1_2
          (broadcastInDim S8x1024x1 ![0, 1] bcast_S8x1024_S8x1024x1_0_1
            (Host.reduceAdd (mulf p p) (constant S_ .f32 0x00000000#32) reducesTo_S8x1024x64_S8x1024_d2 h_S_)))
        (broadcastInDim S8x1024x1024 ![0, 1, 2] bcast_S8x1x1024_S8x1024x1024_0_1_2
          (broadcastInDim S8x1x1024 ![0, 2] bcast_S8x1024_S8x1x1024_0_2
            (Host.reduceAdd (mulf b b) (constant S_ .f32 0x00000000#32) reducesTo_S8x1024x64_S8x1024_d2 h_S_))))
      (mulf (broadcastInDim S8x1024x1024 ![] bcast_S_S8x1024x1024 (constant S_ .f32 0x40000000#32))
        (Host.dotGeneral dot_S8x1024x64_S8x1024x64_S8x1024x1024_2_2_1_1_0_0 none p b)))
    (broadcastInDim S8x1024x1024 ![] bcast_S_S8x1024x1024 (constant S_ .f32 0x00000000#32)))

/-- The second parts of a reduction over pairs. -/
def argIndex {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t)
    (hu : 0 < u.numel) : IVec t 32 := fun j => (Host.argReduce f x y ix iy h hu j).2

/-- The row nearest to every position. -/
def nearest (d : FVec Ideal S8x1024x1024 .f32) : IVec S8x1024 32 :=
  argIndex reducer_argmin_f32_i32 d (iotaInDim S8x1024x1024 32 2) (constant S_ .f32 0x7F800000#32)
    (constantI S_ 32 0#32) reducesTo_S8x1024x1024_S8x1024_d2 h_S_

/-- The index of a row as the gather reads it: a negative one counts from the end. -/
def wrapped (z : IVec S8192 32) : IVec S8192x1 32 :=
  broadcastInDim S8192x1 ![0] bcast_S8192_S8192x1_0
    (select (cmpi .slt z (broadcastInDim S8192 ![] bcast_S_S8192 (constantI S_ 32 0#32)))
      (addi z (broadcastInDim S8192 ![] bcast_S_S8192 (constantI S_ 32 1024#32))) z)

/-- The rows of the codebook at the given indices, and not-a-number where an index is out of range. -/
def taken (e : FVec Ideal S1024x64 .f32) (i : IVec S8192x1 32) : FVec Ideal S8192x64 .f32 :=
  select
    (broadcastInDim S8192x64 ![0] bcast_S8192_S8192x64_0
      (Host.reduce IntOp.andi
        (andi (cmpi .sge i (broadcastInDim S8192x1 ![] bcast_S_S8192x1 (constantI S_ 32 0#32)))
          (cmpi .sle i (broadcastInDim S8192x1 ![0, 1] bcast_S1x1_S8192x1_0_1
            (broadcastInDim S1x1 ![1] bcast_S1_S1x1_1 (constantI S1 32 1023#32)))))
        (constantI S_ 1 1#1) reducesTo_S8192x1_S8192_d1 h_S_))
    (Host.gather gather_S1024x64_S8192x1_S8192x64_1_0_n_n_0_1_164 e i)
    (broadcastInDim S8192x64 ![] bcast_S_S8192x64 (constant S_ .f32 0x7FC00000#32))

/-- The mean squared difference of two arrays. -/
def meanSq (p q : FVec Ideal S8x32x32x64 .f32) : FVec Ideal S_ .f32 :=
  Host.divf
    (Host.reduceAdd (mulf (subf p q) (subf p q)) (constant S_ .f32 0x00000000#32) reducesTo_S8x32x32x64_S_d0_1_2_3 h_S_)
    (constant S_ .f32 0x49000000#32)

/-- The straight-through array: the input plus the difference, with the channels moved to the front. -/
def through (p q : FVec Ideal S8x32x32x64 .f32) : FVec Ideal S8x64x32x32 .f32 :=
  transpose S8x64x32x32 [0, 3, 1, 2] (addf p (subf q p)) transposes_S8x32x32x64_S8x64x32x32_0_3_1_2

end Cert.Vq.Ref

end
-- ==== Proof.RefRun.lean ====
/- What the four lists of the reference compute, and the run of the whole reference. -/
module

public import proofs.«01_k».proof.Proof.RefOps
public import Idealize.ShloMosaic.Lib.StableHlo.Run
public import Idealize.ShloMosaic.Lib.Quiescent

@[expose] public section

set_option maxRecDepth 16384

noncomputable section

namespace Cert.Vq.Ref

open Cert.ReferenceIdeal Cert.ReferenceIdeal.Gen Idealize.ShloMosaic Idealize.ShloMosaic.TcCoe Idealize.SL.Sem Idealize.ShloMosaic.StableHlo

/-! ## What each list computes -/

/-- The first lines leave the distances. -/
theorem dist_v19 (V : Valuation τ sig (Elt Ideal)) :
    after (opsDist (F := Ideal)) V (Proc.devRef .tc main_v19) = distances (patches (V (Proc.devRef .tc main_arg0))) (books (V (Proc.devRef .tc main_arg1))) := by
  simp only [opsDist, TRef.binary, TRef.nullary, TRef.ternary, TRef.quaternary, TRef.unary, TRef.toBuf, TRef.ofBuf, cast_eq]
  after_results <;> rfl

/-- The first lines leave the positions. -/
theorem dist_v1 (V : Valuation τ sig (Elt Ideal)) :
    after (opsDist (F := Ideal)) V (Proc.devRef .tc main_v1) = patches (V (Proc.devRef .tc main_arg0)) := by
  simp only [opsDist, TRef.binary, TRef.nullary, TRef.ternary, TRef.quaternary, TRef.unary, TRef.toBuf, TRef.ofBuf, cast_eq]
  after_results <;> rfl

/-- The first lines keep the input. -/
theorem dist_keeps_arg0 (V : Valuation τ sig (Elt Ideal)) :
    after (opsDist (F := Ideal)) V (Proc.devRef .tc main_arg0) = (V (Proc.devRef .tc main_arg0)) := by
  simp only [opsDist, TRef.binary, TRef.nullary, TRef.ternary, TRef.quaternary, TRef.unary, TRef.toBuf, TRef.ofBuf, cast_eq]
  after_results <;> rfl

/-- The first lines keep the codebook. -/
theorem dist_keeps_arg1 (V : Valuation τ sig (Elt Ideal)) :
    after (opsDist (F := Ideal)) V (Proc.devRef .tc main_arg1) = (V (Proc.devRef .tc main_arg1)) := by
  simp only [opsDist, TRef.binary, TRef.nullary, TRef.ternary, TRef.quaternary, TRef.unary, TRef.toBuf, TRef.ofBuf, cast_eq]
  after_results <;> rfl

/-- The arg-min's lines keep the input. -/
theorem arg_keeps_arg0 (V : Valuation τ sig (Elt Ideal)) :
    after (opsArg (F := Ideal)) V (Proc.devRef .tc main_arg0) = (V (Proc.devRef .tc main_arg0)) := by
  simp only [opsArg, TRef.binary, TRef.nullary, TRef.ternary, TRef.quaternary, TRef.unary, TRef.toBuf, TRef.ofBuf, cast_eq]
  after_results <;> rfl

/-- The arg-min's lines keep the codebook. -/
theorem arg_keeps_arg1 (V : Valuation τ sig (Elt Ideal)) :
    after (opsArg (F := Ideal)) V (Proc.devRef .tc main_arg1) = (V (Proc.devRef .tc main_arg1)) := by
  simp only [opsArg, TRef.binary, TRef.nullary, TRef.ternary, TRef.quaternary, TRef.unary, TRef.toBuf, TRef.ofBuf, cast_eq]
  after_results <;> rfl

/-- The arg-min's lines keep the positions. -/
theorem arg_keeps_v1 (V : Valuation τ sig (Elt Ideal)) :
    after (opsArg (F := Ideal)) V (Proc.devRef .tc main_v1) = (V (Proc.devRef .tc main_v1)) := by
  simp only [opsArg, TRef.binary, TRef.nullary, TRef.ternary, TRef.quaternary, TRef.unary, TRef.toBuf, TRef.ofBuf, cast_eq]
  after_results <;> rfl

/-- The taking lines keep the input. -/
theorem take_keeps_arg0 (V : Valuation τ sig (Elt Ideal)) :
    after (opsTake (F := Ideal)) V (Proc.devRef .tc main_arg0) = (V (Proc.devRef .tc main_arg0)) := by
  simp only [opsTake, TRef.binary, TRef.nullary, TRef.ternary, TRef.quaternary, TRef.unary, TRef.toBuf, TRef.ofBuf, cast_eq]
  after_results <;> rfl

/-- The taking lines keep the codebook. -/
theorem take_keeps_arg1 (V : Valuation τ sig (Elt Ideal)) :
    after (opsTake (F := Ideal)) V (Proc.devRef .tc main_arg1) = (V (Proc.devRef .tc main_arg1)) := by
  simp only [opsTake, TRef.binary, TRef.nullary, TRef.ternary, TRef.quaternary, TRef.unary, TRef.toBuf, TRef.ofBuf, cast_eq]
  after_results <;> rfl

/-- The taking lines keep the positions. -/
theorem take_keeps_v1 (V : Valuation τ sig (Elt Ideal)) :
    after (opsTake (F := Ideal)) V (Proc.devRef .tc main_v1) = (V (Proc.devRef .tc main_v1)) := by
  simp only [opsTake, TRef.binary, TRef.nullary, TRef.ternary, TRef.quaternary, TRef.unary, TRef.toBuf, TRef.ofBuf, cast_eq]
  after_results <;> rfl

/-- The last lines keep the input. -/
theorem tail_keeps_arg0 (V : Valuation τ sig (Elt Ideal)) :
    after (opsTail (F := Ideal)) V (Proc.devRef .tc main_arg0) = (V (Proc.devRef .tc main_arg0)) := by
  simp only [opsTail, TRef.binary, TRef.nullary, TRef.ternary, TRef.quaternary, TRef.unary, TRef.toBuf, TRef.ofBuf, cast_eq]
  after_results <;> rfl

/-- The last lines keep the codebook. -/
theorem tail_keeps_arg1 (V : Valuation τ sig (Elt Ideal)) :
    after (opsTail (F := Ideal)) V (Proc.devRef .tc main_arg1) = (V (Proc.devRef .tc main_arg1)) := by
  simp only [opsTail, TRef.binary, TRef.nullary, TRef.ternary, TRef.quaternary, TRef.unary, TRef.toBuf, TRef.ofBuf, cast_eq]
  after_results <;> rfl

/-- The arg-min's lines leave the nearest row's index. -/
theorem arg_v20 (V : Valuation τ sig (Elt Ideal)) :
    after (opsArg (F := Ideal)) V (Proc.devRef .tc main_v20) = nearest (V (Proc.devRef .tc main_v19)) := by
  simp only [opsArg, TRef.binary, TRef.nullary, TRef.ternary, TRef.quaternary, TRef.unary, TRef.toBuf, TRef.ofBuf, cast_eq]
  after_results <;> rfl

/-- The taking lines leave the rows at the indices. -/
theorem take_v22 (V : Valuation τ sig (Elt Ideal)) :
    after (opsTake (F := Ideal)) V (Proc.devRef .tc main_v22) = taken (V (Proc.devRef .tc main_arg1)) (wrapped (shapeCast S8192 (V (Proc.devRef .tc main_v20)) shapeCasts_S8x1024_S8192)) := by
  simp only [opsTake, TRef.binary, TRef.nullary, TRef.ternary, TRef.quaternary, TRef.unary, TRef.toBuf, TRef.ofBuf, cast_eq]
  after_results <;> rfl

/-- The last lines leave the mean squared difference as the commitment loss. -/
theorem tail_v28 (V : Valuation τ sig (Elt Ideal)) :
    after (opsTail (F := Ideal)) V (Proc.devRef .tc main_v28) = meanSq (shapeCast S8x32x32x64 (V (Proc.devRef .tc main_v1)) shapeCasts_S8x1024x64_S8x32x32x64) (shapeCast S8x32x32x64 (V (Proc.devRef .tc main_v22)) shapeCasts_S8192x64_S8x32x32x64) := by
  simp only [opsTail, TRef.binary, TRef.nullary, TRef.ternary, TRef.quaternary, TRef.unary, TRef.toBuf, TRef.ofBuf, cast_eq]
  after_results <;> rfl

/-- The last lines leave the mean squared difference as the codebook loss. -/
theorem tail_v32 (V : Valuation τ sig (Elt Ideal)) :
    after (opsTail (F := Ideal)) V (Proc.devRef .tc main_v32) = meanSq (shapeCast S8x32x32x64 (V (Proc.devRef .tc main_v1)) shapeCasts_S8x1024x64_S8x32x32x64) (shapeCast S8x32x32x64 (V (Proc.devRef .tc main_v22)) shapeCasts_S8192x64_S8x32x32x64) := by
  simp only [opsTail, TRef.binary, TRef.nullary, TRef.ternary, TRef.quaternary, TRef.unary, TRef.toBuf, TRef.ofBuf, cast_eq]
  after_results <;> rfl

/-- The last lines leave a fifth of the one loss added to the other. -/
theorem tail_v34 (V : Valuation τ sig (Elt Ideal)) :
    after (opsTail (F := Ideal)) V (Proc.devRef .tc main_v34) = addf (mulf (constant S_ .f32 0x3E4CCCCD#32) (meanSq (shapeCast S8x32x32x64 (V (Proc.devRef .tc main_v1)) shapeCasts_S8x1024x64_S8x32x32x64) (shapeCast S8x32x32x64 (V (Proc.devRef .tc main_v22)) shapeCasts_S8192x64_S8x32x32x64))) (meanSq (shapeCast S8x32x32x64 (V (Proc.devRef .tc main_v1)) shapeCasts_S8x1024x64_S8x32x32x64) (shapeCast S8x32x32x64 (V (Proc.devRef .tc main_v22)) shapeCasts_S8192x64_S8x32x32x64)) := by
  simp only [opsTail, TRef.binary, TRef.nullary, TRef.ternary, TRef.quaternary, TRef.unary, TRef.toBuf, TRef.ofBuf, cast_eq]
  after_results <;> rfl

/-- The last lines leave the straight-through array. -/
theorem tail_v37 (V : Valuation τ sig (Elt Ideal)) :
    after (opsTail (F := Ideal)) V (Proc.devRef .tc main_v37) = through (shapeCast S8x32x32x64 (V (Proc.devRef .tc main_v1)) shapeCasts_S8x1024x64_S8x32x32x64) (shapeCast S8x32x32x64 (V (Proc.devRef .tc main_v22)) shapeCasts_S8192x64_S8x32x32x64) := by
  simp only [opsTail, TRef.binary, TRef.nullary, TRef.ternary, TRef.quaternary, TRef.unary, TRef.toBuf, TRef.ofBuf, cast_eq]
  after_results <;> rfl

/-- The last lines leave the rows taken, reshaped. -/
theorem tail_v38 (V : Valuation τ sig (Elt Ideal)) :
    after (opsTail (F := Ideal)) V (Proc.devRef .tc main_v38) = shapeCast S8x64x32x32 (shapeCast S8x32x32x64 (V (Proc.devRef .tc main_v22)) shapeCasts_S8192x64_S8x32x32x64) shapeCasts_S8x32x32x64_S8x64x32x32 := by
  simp only [opsTail, TRef.binary, TRef.nullary, TRef.ternary, TRef.quaternary, TRef.unary, TRef.toBuf, TRef.ofBuf, cast_eq]
  after_results <;> rfl

/-! ## The whole program -/

/-- The whole program's operations, in order. -/
def ops : List (HloOp τ sig (Elt Ideal)) := opsDist ++ (opsArg ++ (opsTake ++ opsTail))

/-- The program is its lines in order. -/
theorem main_eq (c : Dev nD) : main (F := Ideal) c = seq ops := rfl
/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide
/-- All lines touch only the program's own buffers. -/
theorem ops_sub : (ops : List (HloOp τ sig (Elt Ideal))).Forall fun op => op.bufs ⊆ tcRefs τ sig := by
  simp only [ops, List.forall_append]
  exact ⟨opsDist_sub, opsArg_sub, opsTake_sub, opsTail_sub⟩

/-- One list after another. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The index of the row nearest to every position, from the program's arguments. -/
def index (x : FVec Ideal S8x64x32x32 .f32) (e : FVec Ideal S1024x64 .f32) : IVec S8x1024 32 :=
  nearest (distances (patches x) (books e))

/-- The rows chosen, one per position, in the shape of the image. -/
def chosen (x : FVec Ideal S8x64x32x32 .f32) (e : FVec Ideal S1024x64 .f32) : FVec Ideal S8x32x32x64 .f32 :=
  shapeCast S8x32x32x64 (taken e (wrapped (shapeCast S8192 (index x e) shapeCasts_S8x1024_S8192)))
    shapeCasts_S8192x64_S8x32x32x64

/-- The positions in the shape of the image. -/
def image (x : FVec Ideal S8x64x32x32 .f32) : FVec Ideal S8x32x32x64 .f32 :=
  shapeCast S8x32x32x64 (patches x) shapeCasts_S8x1024x64_S8x32x32x64

/-- The mean squared difference the two losses are. -/
def loss (x : FVec Ideal S8x64x32x32 .f32) (e : FVec Ideal S1024x64 .f32) : FVec Ideal S_ .f32 :=
  meanSq (image x) (chosen x e)

/-- The lists one after another, from contents `V`. -/
theorem ops_split (V : Valuation τ sig (Elt Ideal)) :
    after ops V = after opsTail (after opsTake (after opsArg (after opsDist V))) := by
  unfold ops
  rw [after_append, after_append, after_append]

/-- The rows taken, from contents `V`. -/
theorem pre_v22 (V : Valuation τ sig (Elt Ideal)) :
    after opsTake (after opsArg (after opsDist V)) (Proc.devRef .tc main_v22)
      = taken (V (Proc.devRef .tc main_arg1)) (wrapped (shapeCast S8192
          (index (V (Proc.devRef .tc main_arg0)) (V (Proc.devRef .tc main_arg1))) shapeCasts_S8x1024_S8192)) := by
  rw [take_v22, arg_v20, arg_keeps_arg1, dist_v19, dist_keeps_arg1]; rfl

/-- The positions, from contents `V`. -/
theorem pre_v1 (V : Valuation τ sig (Elt Ideal)) :
    after opsTake (after opsArg (after opsDist V)) (Proc.devRef .tc main_v1) = patches (V (Proc.devRef .tc main_arg0)) := by
  rw [take_keeps_v1, arg_keeps_v1, dist_v1]

/-- The straight-through array as a function of the arguments. -/
theorem ops_v37 (V : Valuation τ sig (Elt Ideal)) :
    after ops V (Proc.devRef .tc main_v37) = through (image (V (Proc.devRef .tc main_arg0))) (chosen (V (Proc.devRef .tc main_arg0)) (V (Proc.devRef .tc main_arg1))) := by
  rw [ops_split, tail_v37, pre_v22, pre_v1]; rfl

/-- The codebook loss as a function of the arguments. -/
theorem ops_v32 (V : Valuation τ sig (Elt Ideal)) :
    after ops V (Proc.devRef .tc main_v32) = loss (V (Proc.devRef .tc main_arg0)) (V (Proc.devRef .tc main_arg1)) := by
  rw [ops_split, tail_v32, pre_v22, pre_v1]; rfl

/-- The commitment loss as a function of the arguments. -/
theorem ops_v28 (V : Valuation τ sig (Elt Ideal)) :
    after ops V (Proc.devRef .tc main_v28) = loss (V (Proc.devRef .tc main_arg0)) (V (Proc.devRef .tc main_arg1)) := by
  rw [ops_split, tail_v28, pre_v22, pre_v1]; rfl

/-- The quantizer loss as a function of the arguments. -/
theorem ops_v34 (V : Valuation τ sig (Elt Ideal)) :
    after ops V (Proc.devRef .tc main_v34) = addf (mulf (constant S_ .f32 0x3E4CCCCD#32) (loss (V (Proc.devRef .tc main_arg0)) (V (Proc.devRef .tc main_arg1)))) (loss (V (Proc.devRef .tc main_arg0)) (V (Proc.devRef .tc main_arg1))) := by
  rw [ops_split, tail_v34, pre_v22, pre_v1]; rfl

/-- The rows taken, reshaped, as a function of the arguments. -/
theorem ops_v38 (V : Valuation τ sig (Elt Ideal)) :
    after ops V (Proc.devRef .tc main_v38) = shapeCast S8x64x32x32 (chosen (V (Proc.devRef .tc main_arg0)) (V (Proc.devRef .tc main_arg1))) shapeCasts_S8x32x32x64_S8x64x32x32 := by
  rw [ops_split, tail_v38, pre_v22]; rfl

/-- The lines keep the input. -/
theorem ops_arg0 (V : Valuation τ sig (Elt Ideal)) :
    after ops V (Proc.devRef .tc main_arg0) = (V (Proc.devRef .tc main_arg0)) := by
  rw [ops_split, tail_keeps_arg0, take_keeps_arg0, arg_keeps_arg0, dist_keeps_arg0]

/-- The lines keep the codebook. -/
theorem ops_arg1 (V : Valuation τ sig (Elt Ideal)) :
    after ops V (Proc.devRef .tc main_arg1) = (V (Proc.devRef .tc main_arg1)) := by
  rw [ops_split, tail_keeps_arg1, take_keeps_arg1, arg_keeps_arg1, dist_keeps_arg1]

/-- From any memory with zero counters every weakly fair execution ends, with the five results at the named arrays of
    the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
          = through (image (m ((c.tc : Thread nD τ).loc main_arg0)))
              (chosen (m ((c.tc : Thread nD τ).loc main_arg0)) (m ((c.tc : Thread nD τ).loc main_arg1)))
      ∧ r.2.mem ((c.tc : Thread nD τ).loc main_v32)
          = loss (m ((c.tc : Thread nD τ).loc main_arg0)) (m ((c.tc : Thread nD τ).loc main_arg1))
      ∧ r.2.mem ((c.tc : Thread nD τ).loc main_v28)
          = loss (m ((c.tc : Thread nD τ).loc main_arg0)) (m ((c.tc : Thread nD τ).loc main_arg1))
      ∧ r.2.mem ((c.tc : Thread nD τ).loc main_v34)
          = addf (mulf (constant S_ .f32 0x3E4CCCCD#32)
                (loss (m ((c.tc : Thread nD τ).loc main_arg0)) (m ((c.tc : Thread nD τ).loc main_arg1))))
              (loss (m ((c.tc : Thread nD τ).loc main_arg0)) (m ((c.tc : Thread nD τ).loc main_arg1)))
      ∧ r.2.mem ((c.tc : Thread nD τ).loc main_v38)
          = shapeCast S8x64x32x32 (chosen (m ((c.tc : Thread nD τ).loc main_arg0)) (m ((c.tc : Thread nD τ).loc main_arg1)))
              shapeCasts_S8x32x32x64_S8x64x32x32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (ops_v37 _), (h c main_v32).trans (ops_v32 _),
      (h c main_v28).trans (ops_v28 _), (h c main_v34).trans (ops_v34 _), (h c main_v38).trans (ops_v38 _),
      (h c main_arg0).trans (ops_arg0 _), (h c main_arg1).trans (ops_arg1 _)⟩)
    (run_seq scopedRefs_eq scopedSems_eq defs main (fun _ => ops) main_eq (fun _ => ops_sub) m ρ)

/-- The reference leaves its arguments unchanged and every counter at zero. -/
theorem frame_ri (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2, Idealize.ShloMosaic.sem_eq_zero_of_no_sems (by decide) r.2⟩) (run m ρ)

end Cert.Vq.Ref

end
-- ==== Proof.Blocks.lean ====
/- What one grid point leaves in the three result blocks: for each of its four batches the chosen rows, their transposed
   pass through the input, and the sum of the squared differences added to the running total. -/
module

public import proofs.«01_k».proof.Defs
public import proofs.«01_k».proof.Proof.Gen.KernelIdeal.Frame
public import Idealize.ShloMosaic.Lib.Pipeline.Value
public import Idealize.ShloMosaic.Lib.Pointwise

@[expose] public section

set_option maxRecDepth 16384

noncomputable section

namespace Cert.Vq.Blocks

open Cert.KernelIdeal Cert.KernelIdeal.Gen Idealize.ShloMosaic Idealize.ShloMosaic.TcCoe Idealize.SL.Sem
open Idealize.ShloMosaic.Pipeline (Dat)

/-- One batch of a block of the input. -/
def slab (x : Vec Ideal S4x64x1024 .f32) (b : Fin 4) : Vec Ideal S1x64x1024 .f32 := fun j => x (ix3 b (j 1) (j 2))

/-- The chosen rows of the four batches. -/
def rows (x : Vec Ideal S4x64x1024 .f32) (e : Vec Ideal S1024x64 .f32) : Vec Ideal S4x1024x64 .f32 :=
  fun y => k0_pay8 (F := Ideal) e (slab x (y 0)) (ix2 (y 1) (y 2))

/-- The rows picked for a block, at an element. -/
theorem rows_ix (x : Vec Ideal S4x64x1024 .f32) (e : Vec Ideal S1024x64 .f32) (b : Fin 4) (n : Fin 1024) (d : Fin 64) :
    rows x e (ix3 b n d) = k0_pay8 (F := Ideal) e (slab x b) (ix2 n d) := rfl

/-- The input plus the difference of the chosen row and it. -/
def turned (x : Vec Ideal S4x64x1024 .f32) (e : Vec Ideal S1024x64 .f32) : Vec Ideal S4x64x1024 .f32 :=
  fun y => (x y : EReal) + ((rows x e (ix3 (y 0) (y 2) (y 1)) : EReal) - x y)

/-- The sum over one batch of the squared differences. -/
def miss (x : Vec Ideal S4x64x1024 .f32) (e : Vec Ideal S1024x64 .f32) (b : Fin 4) : EReal :=
  ∑ n : Fin 1024, ∑ d : Fin 64, ((x (ix3 b d n) : EReal) - rows x e (ix3 b n d)) * ((x (ix3 b d n) : EReal) - rows x e (ix3 b n d))

/-- The two-axis zero offset. -/
theorem hz2 : (![0, 0] : Fin 2 → Nat) = fun _ => 0 := by decide

/-- A load of one batch of a block reads that batch. -/
theorem load_slab (x : Vec Ideal S4x64x1024 .f32) (b : Fin 4) (o : Fin 3 → Nat) (ho : o = ![b.val, 0, 0])
    (h : ∀ a, o a + S1x64x1024.size a ≤ S4x64x1024.size a) :
    View.ld (Val := Elt Ideal) (e' := .f32) x (Rect.unit (s := S4x64x1024) o S1x64x1024.size h) = slab x b := by
  subst ho
  funext j
  idx_vars j
  pointwise [slab]

/-- One stored batch of rows is its part of `rows`. -/
theorem piece_rows (x : Vec Ideal S4x64x1024 .f32) (e : Vec Ideal S1024x64 .f32) (b : Fin 4) (o : Fin 3 → Nat)
    (ho : o = ![b.val, 0, 0]) (h : ∀ a, o a + S1x1024x64.size a ≤ S4x1024x64.size a) (z : S1x1024x64.Idx) :
    k0_pay9 (F := Ideal) e (slab x b) z = rows x e ((Rect.unit (s := S4x1024x64) o S1x1024x64.size h).emb z) := by
  subst ho
  have hz : (Rect.unit (s := S4x1024x64) ![b.val, 0, 0] S1x1024x64.size h).emb z = ix3 b (z 1) (z 2) := by
    funext a
    apply Fin.ext
    rw [Rect.emb_apply]
    fin_cases a
    · have : (z 0).val < 1 := (z 0).isLt
      simp
      show (z 0).val = 0
      omega
    · simp
    · simp
  rw [hz]
  idx_vars z
  show _ = rows x e (ix3 b z1 z2)
  rw [rows_ix]
  unfold k0_pay9
  generalize k0_pay8 (F := Ideal) e (slab x b) = q
  pointwise

/-- One stored transposed batch is its part of `turned`. -/
theorem piece_turned (x : Vec Ideal S4x64x1024 .f32) (e : Vec Ideal S1024x64 .f32) (b : Fin 4) (o : Fin 3 → Nat)
    (ho : o = ![b.val, 0, 0]) (h : ∀ a, o a + S1x64x1024.size a ≤ S4x64x1024.size a) (z : S1x64x1024.Idx) :
    shapeCast S1x64x1024 (k0_pay10 (F := Ideal) e (slab x b)) shapeCasts_S64x1024_S1x64x1024 z
      = turned x e ((Rect.unit (s := S4x64x1024) o S1x64x1024.size h).emb z) := by
  subst ho
  have hz : (Rect.unit (s := S4x64x1024) ![b.val, 0, 0] S1x64x1024.size h).emb z = ix3 b (z 1) (z 2) := by
    funext a
    apply Fin.ext
    rw [Rect.emb_apply]
    fin_cases a
    · have : (z 0).val < 1 := (z 0).isLt
      simp
      show (z 0).val = 0
      omega
    · simp
    · simp
  rw [hz]
  idx_vars z
  show _ = (x (ix3 b z1 z2) : EReal) + ((rows x e (ix3 b z2 z1) : EReal) - x (ix3 b z1 z2))
  rw [rows_ix]
  unfold k0_pay10
  generalize k0_pay8 (F := Ideal) e (slab x b) = q
  pointwise [k0_pay7, slab]

/-- The four stored batches of rows make up `rows`. -/
theorem canon_rows (x : Vec Ideal S4x64x1024 .f32) (e : Vec Ideal S1024x64 .f32) :
    View.canon (Val := Elt Ideal) (s := S4x1024x64) (e := .f32)
      [⟨Rect.unit ![3, 0, 0] ![1, 1024, 64] inb_S4x1024x64_S1x1024x64_3_0_0,
          k0_pay27 (F := Ideal) (k0_pay4 e) (k0_pay5 e) (iota Kind.tc S1x1024 32 [1] iota_S1x1024_d1_w32)
            (View.ld (Val := Elt Ideal) (e' := .f32) x (Rect.unit ![3, 0, 0] ![1, 64, 1024] inb_S4x64x1024_S1x64x1024_3_0_0))⟩,
        ⟨Rect.unit ![2, 0, 0] ![1, 1024, 64] inb_S4x1024x64_S1x1024x64_2_0_0,
          k0_pay21 (F := Ideal) (k0_pay4 e) (k0_pay5 e) (iota Kind.tc S1x1024 32 [1] iota_S1x1024_d1_w32)
            (View.ld (Val := Elt Ideal) (e' := .f32) x (Rect.unit ![2, 0, 0] ![1, 64, 1024] inb_S4x64x1024_S1x64x1024_2_0_0))⟩,
        ⟨Rect.unit ![1, 0, 0] ![1, 1024, 64] inb_S4x1024x64_S1x1024x64_1_0_0,
          k0_pay15 (F := Ideal) (k0_pay4 e) (k0_pay5 e) (iota Kind.tc S1x1024 32 [1] iota_S1x1024_d1_w32)
            (View.ld (Val := Elt Ideal) (e' := .f32) x (Rect.unit ![1, 0, 0] ![1, 64, 1024] inb_S4x64x1024_S1x64x1024_1_0_0))⟩,
        ⟨Rect.unit ![0, 0, 0] ![1, 1024, 64] inb_S4x1024x64_S1x1024x64_0_0_0,
          k0_pay9 (F := Ideal) e (View.ld (Val := Elt Ideal) (e' := .f32) x (Rect.unit ![0, 0, 0] ![1, 64, 1024] inb_S4x64x1024_S1x64x1024_0_0_0))⟩]
      = rows x e := by
  funext y
  refine View.canon_apply_of_pieces (rows x e) _ (fun p hp z => ?_) y
    (View.cover_of_tiledL (s := S4x1024x64) _ S1x1024x64.size (by sl_kernel_rfl) y)
  simp only [List.mem_cons, List.mem_nil_iff, or_false] at hp
  rcases hp with rfl | rfl | rfl | rfl
  · exact (congrArg (fun s => k0_pay9 (F := Ideal) e s z) (load_slab x 3 _ rfl inb_S4x64x1024_S1x64x1024_3_0_0)).trans (piece_rows x e 3 _ rfl inb_S4x1024x64_S1x1024x64_3_0_0 z)
  · exact (congrArg (fun s => k0_pay9 (F := Ideal) e s z) (load_slab x 2 _ rfl inb_S4x64x1024_S1x64x1024_2_0_0)).trans (piece_rows x e 2 _ rfl inb_S4x1024x64_S1x1024x64_2_0_0 z)
  · exact (congrArg (fun s => k0_pay9 (F := Ideal) e s z) (load_slab x 1 _ rfl inb_S4x64x1024_S1x64x1024_1_0_0)).trans (piece_rows x e 1 _ rfl inb_S4x1024x64_S1x1024x64_1_0_0 z)
  · exact (congrArg (fun s => k0_pay9 (F := Ideal) e s z) (load_slab x 0 _ rfl inb_S4x64x1024_S1x64x1024_0_0_0)).trans (piece_rows x e 0 _ rfl inb_S4x1024x64_S1x1024x64_0_0_0 z)

/-- The four stored transposed batches make up `turned`. -/
theorem canon_turned (x : Vec Ideal S4x64x1024 .f32) (e : Vec Ideal S1024x64 .f32) :
    View.canon (Val := Elt Ideal) (s := S4x64x1024) (e := .f32)
      [⟨Rect.unit ![3, 0, 0] ![1, 64, 1024] inb_S4x64x1024_S1x64x1024_3_0_0,
          k0_pay1 (k0_pay28 (F := Ideal) (k0_pay4 e) (k0_pay5 e) (iota Kind.tc S1x1024 32 [1] iota_S1x1024_d1_w32)
            (View.ld (Val := Elt Ideal) (e' := .f32) x (Rect.unit ![3, 0, 0] ![1, 64, 1024] inb_S4x64x1024_S1x64x1024_3_0_0)))⟩,
        ⟨Rect.unit ![2, 0, 0] ![1, 64, 1024] inb_S4x64x1024_S1x64x1024_2_0_0,
          k0_pay23 (k0_pay22 (F := Ideal) (k0_pay4 e) (k0_pay5 e) (iota Kind.tc S1x1024 32 [1] iota_S1x1024_d1_w32)
            (View.ld (Val := Elt Ideal) (e' := .f32) x (Rect.unit ![2, 0, 0] ![1, 64, 1024] inb_S4x64x1024_S1x64x1024_2_0_0)))⟩,
        ⟨Rect.unit ![1, 0, 0] ![1, 64, 1024] inb_S4x64x1024_S1x64x1024_1_0_0,
          k0_pay17 (k0_pay16 (F := Ideal) (k0_pay4 e) (k0_pay5 e) (iota Kind.tc S1x1024 32 [1] iota_S1x1024_d1_w32)
            (View.ld (Val := Elt Ideal) (e' := .f32) x (Rect.unit ![1, 0, 0] ![1, 64, 1024] inb_S4x64x1024_S1x64x1024_1_0_0)))⟩,
        ⟨Rect.unit ![0, 0, 0] ![1, 64, 1024] inb_S4x64x1024_S1x64x1024_0_0_0,
          k0_pay11 (k0_pay10 (F := Ideal) e
            (View.ld (Val := Elt Ideal) (e' := .f32) x (Rect.unit ![0, 0, 0] ![1, 64, 1024] inb_S4x64x1024_S1x64x1024_0_0_0)))⟩]
      = turned x e := by
  funext y
  refine View.canon_apply_of_pieces (turned x e) _ (fun p hp z => ?_) y
    (View.cover_of_tiledL (s := S4x64x1024) _ S1x64x1024.size (by sl_kernel_rfl) y)
  simp only [List.mem_cons, List.mem_nil_iff, or_false] at hp
  rcases hp with rfl | rfl | rfl | rfl
  · exact (congrArg (fun s => k0_pay11 (k0_pay10 (F := Ideal) e s) z) (load_slab x 3 _ rfl inb_S4x64x1024_S1x64x1024_3_0_0)).trans (piece_turned x e 3 _ rfl inb_S4x64x1024_S1x64x1024_3_0_0 z)
  · exact (congrArg (fun s => k0_pay11 (k0_pay10 (F := Ideal) e s) z) (load_slab x 2 _ rfl inb_S4x64x1024_S1x64x1024_2_0_0)).trans (piece_turned x e 2 _ rfl inb_S4x64x1024_S1x64x1024_2_0_0 z)
  · exact (congrArg (fun s => k0_pay11 (k0_pay10 (F := Ideal) e s) z) (load_slab x 1 _ rfl inb_S4x64x1024_S1x64x1024_1_0_0)).trans (piece_turned x e 1 _ rfl inb_S4x64x1024_S1x64x1024_1_0_0 z)
  · exact (congrArg (fun s => k0_pay11 (k0_pay10 (F := Ideal) e s) z) (load_slab x 0 _ rfl inb_S4x64x1024_S1x64x1024_0_0_0)).trans (piece_turned x e 0 _ rfl inb_S4x64x1024_S1x64x1024_0_0_0 z)

/-- One batch's sum of squared differences added to a running total. -/
theorem add_miss (x : Vec Ideal S4x64x1024 .f32) (e : Vec Ideal S1024x64 .f32) (b : Fin 4) (v : FVec Ideal S1x1 .f32) :
    k0_pay12 (F := Ideal) v (k0_pay7 (slab x b)) (k0_pay8 e (slab x b)) (ix2 0 0) = v (ix2 0 0) + miss x e b := by
  unfold miss
  simp only [rows_ix]
  generalize k0_pay8 (F := Ideal) e (slab x b) = q
  pointwise [k0_pay12, k0_pay7, slab]

/-- The four batches' sums added to the total before. -/
def added (x : Vec Ideal S4x64x1024 .f32) (e : Vec Ideal S1024x64 .f32) (v : EReal) : EReal :=
  v + (0 + miss x e 0 + miss x e 1 + miss x e 2 + miss x e 3)

/-- What the body adds to the running total, over the batches of a block. -/
theorem payload_total (x : Vec Ideal S4x64x1024 .f32) (e : Vec Ideal S1024x64 .f32) (v : Vec Ideal S1x1 .f32) (o : S1x1.Idx)
    (s0 s1 s2 s3 : Vec Ideal S1x64x1024 .f32) (l0 : s0 = slab x 0) (l1 : s1 = slab x 1) (l2 : s2 = slab x 2) (l3 : s3 = slab x 3) :
    k0_pay3 (F := Ideal)
      (k0_pay24
        (k0_pay18
          (k0_pay12 k0_pay6 (k0_pay7 s0) (k0_pay8 e s0))
          (k0_pay7 s1) (k0_pay8 e s1))
        (k0_pay7 s2) (k0_pay8 e s2))
      (k0_pay7 s3) (k0_pay8 e s3) v o = added x e (v o) := by
  subst l0 l1 l2 l3
  have ho : o = ix2 0 0 := by
    idx_vars o
    rw [Subsingleton.elim o0 0, Subsingleton.elim o1 0]
  subst ho
  have last : ∀ (w v : FVec Ideal S1x1 .f32) (p q : FVec Ideal S1024x64 .f32),
      k0_pay3 (F := Ideal) w p q v (ix2 0 0) = (v (ix2 0 0) : EReal) + k0_pay12 (F := Ideal) w p q (ix2 0 0) := by
    intro w v p q
    pointwise [k0_pay3, k0_pay12]
  have zero : (k0_pay6 (F := Ideal) (ix2 0 0) : EReal) = 0 := by pointwise [k0_pay6]
  rw [last]
  unfold added
  rw [add_miss]
  show _ + (k0_pay12 (F := Ideal) (k0_pay12 (F := Ideal) (k0_pay12 (F := Ideal) k0_pay6 (k0_pay7 (slab x 0)) (k0_pay8 e (slab x 0)))
    (k0_pay7 (slab x 1)) (k0_pay8 e (slab x 1))) (k0_pay7 (slab x 2)) (k0_pay8 e (slab x 2)) (ix2 0 0) + _) = _
  rw [add_miss, add_miss, add_miss, zero]

section A
variable (c : Dev nD) (i : grid0.Coords) (a1 : Memref sig .tc .vmem S4x64x1024 .f32) (h1 : a1.IsWhole)
  (a2 : Memref sig .tc .vmem S1024x64 .f32) (h2 : a2.IsWhole) (a3 : Memref sig .tc .vmem S4x1024x64 .f32) (h3 : a3.IsWhole)
  (a4 : Memref sig .tc .vmem S4x64x1024 .f32) (h4 : a4.IsWhole) (a5 : Memref sig .tc .vmem S1x1 .f32) (h5 : a5.IsWhole)
  (x : Vec Ideal S4x64x1024 .f32) (e : Vec Ideal S1024x64 .f32)

/-- The first grid point's rows picked. -/
theorem A_rows (hc : cond0_0 i) : out0_A_2 (F := Ideal) c i a1 h1 a2 h2 a3 h3 a4 h4 a5 h5 hc x e = rows x e := by
  unfold out0_A_2
  rw [View.read_writes_eq_canon _ _ _ (cover0_A_2 (F := Ideal) c i a1 h1 a2 h2 a3 h3 a4 h4 a5 h5 hc x e)]
  unfold kernelRun0_A
  dsimp only
  sl_unfold_words
  simp only [View.readAt_eq_ld, h1.read_unread, h2.read_unread, View.ld_unit_zero (S := S1024x64) hz2]
  exact canon_rows x e

/-- The first grid point's straight-through block. -/
theorem A_turned (hc : cond0_0 i) : out0_A_3 (F := Ideal) c i a1 h1 a2 h2 a3 h3 a4 h4 a5 h5 hc x e = turned x e := by
  unfold out0_A_3
  rw [View.read_writes_eq_canon _ _ _ (cover0_A_3 (F := Ideal) c i a1 h1 a2 h2 a3 h3 a4 h4 a5 h5 hc x e)]
  unfold kernelRun0_A
  dsimp only
  sl_unfold_words
  simp only [View.readAt_eq_ld, h1.read_unread, h2.read_unread, View.ld_unit_zero (S := S1024x64) hz2]
  exact canon_turned x e

/-- The first grid point's total, from zero. -/
theorem A_total (hc : cond0_0 i) : out0_A_4 (F := Ideal) c i a1 h1 a2 h2 a3 h3 a4 h4 a5 h5 hc x e = fun _ => added x e 0 := by
  unfold out0_A_4
  rw [View.read_writes_eq_canon _ _ _ (cover0_A_4 (F := Ideal) c i a1 h1 a2 h2 a3 h3 a4 h4 a5 h5 hc x e)]
  unfold kernelRun0_A
  dsimp only
  sl_unfold_words
  simp only [View.readAt_eq_ld, h1.read_unread, h2.read_unread, View.ld_unit_zero (S := S1024x64) hz2]
  rw [View.canon_cons_unit_zero (S := S1x1) hz2, View.readCov_unit_zero (S := S1x1) _ hz2]
  funext o
  have l0 := load_slab x 0 _ rfl inb_S4x64x1024_S1x64x1024_0_0_0
  have l1 := load_slab x 1 _ rfl inb_S4x64x1024_S1x64x1024_1_0_0
  have l2 := load_slab x 2 _ rfl inb_S4x64x1024_S1x64x1024_2_0_0
  have l3 := load_slab x 3 _ rfl inb_S4x64x1024_S1x64x1024_3_0_0
  exact (payload_total x e _ o _ _ _ _ l0 l1 l2 l3).trans (congrArg (added x e) (by pointwise [k0_pay2]))

/-- A later grid point's rows picked. -/
theorem B_rows (hc : ¬cond0_0 i) (v : Vec Ideal S1x1 .f32) : out0_B_2 (F := Ideal) c i a1 h1 a2 h2 a3 h3 a4 h4 a5 h5 hc x e v = rows x e := by
  unfold out0_B_2
  rw [View.read_writes_eq_canon _ _ _ (cover0_B_2 (F := Ideal) c i a1 h1 a2 h2 a3 h3 a4 h4 a5 h5 hc x e v)]
  unfold kernelRun0_B
  dsimp only
  sl_unfold_words
  simp only [View.readAt_eq_ld, h1.read_unread, h2.read_unread, h5.read_unread, View.ld_unit_zero (S := S1024x64) hz2]
  exact canon_rows x e

/-- A later grid point's straight-through block. -/
theorem B_turned (hc : ¬cond0_0 i) (v : Vec Ideal S1x1 .f32) : out0_B_3 (F := Ideal) c i a1 h1 a2 h2 a3 h3 a4 h4 a5 h5 hc x e v = turned x e := by
  unfold out0_B_3
  rw [View.read_writes_eq_canon _ _ _ (cover0_B_3 (F := Ideal) c i a1 h1 a2 h2 a3 h3 a4 h4 a5 h5 hc x e v)]
  unfold kernelRun0_B
  dsimp only
  sl_unfold_words
  simp only [View.readAt_eq_ld, h1.read_unread, h2.read_unread, h5.read_unread, View.ld_unit_zero (S := S1024x64) hz2]
  exact canon_turned x e

/-- A later grid point's total, from the one before. -/
theorem B_total (hc : ¬cond0_0 i) (v : Vec Ideal S1x1 .f32) : out0_B_4 (F := Ideal) c i a1 h1 a2 h2 a3 h3 a4 h4 a5 h5 hc x e v = fun _ => added x e (v (ix2 0 0)) := by
  unfold out0_B_4
  rw [View.read_writes_eq_canon _ _ _ (cover0_B_4 (F := Ideal) c i a1 h1 a2 h2 a3 h3 a4 h4 a5 h5 hc x e v)]
  unfold kernelRun0_B
  dsimp only
  sl_unfold_words
  simp only [View.readAt_eq_ld, h1.read_unread, h2.read_unread, h5.read_unread, View.ld_unit_zero (S := S1024x64) hz2]
  rw [View.canon_unit_zero (S := S1x1) hz2]
  rw [View.ld_unit_zero (S := S1x1) hz2]
  funext o
  have l0 := load_slab x 0 _ rfl inb_S4x64x1024_S1x64x1024_0_0_0
  have l1 := load_slab x 1 _ rfl inb_S4x64x1024_S1x64x1024_1_0_0
  have l2 := load_slab x 2 _ rfl inb_S4x64x1024_S1x64x1024_2_0_0
  have l3 := load_slab x 3 _ rfl inb_S4x64x1024_S1x64x1024_3_0_0
  refine (payload_total x e _ o _ _ _ _ l0 l1 l2 l3).trans (congrArg (fun o => added x e (v o)) ?_)
  idx_vars o
  rw [Subsingleton.elim o0 0, Subsingleton.elim o1 0]

end A

end Cert.Vq.Blocks

end
-- ==== Proof.Final.lean ====
/- The three arrays the grid leaves, at an index, as functions of the two arrays it reads. -/
module

public import proofs.«01_k».proof.Defs
public import proofs.«01_k».proof.Proof.Blocks
public import proofs.«01_k».proof.Proof.KernelRun

@[expose] public section

set_option maxRecDepth 16384

noncomputable section

namespace Cert.Vq.Final

open Cert.KernelIdeal Cert.KernelIdeal.Gen Idealize.ShloMosaic Idealize.ShloMosaic.TcCoe Idealize.SL.Sem
open Idealize.ShloMosaic.Pipeline (Dat)
open Cert.Vq.Blocks Cert.Vq.Run

variable (m : (ℓ : Loc nD τ sig) → Buf (Elt Ideal) ℓ)

/-- One batch of the whole input. -/
def batch (x : Vec Ideal S8x64x1024 .f32) (B : Fin 8) : Vec Ideal S1x64x1024 .f32 := fun j => x (ix3 B (j 1) (j 2))

/-- The batch at a place of a grid point's block. -/
def place (t : Fin cfg0.N) (b : Fin 4) : Fin 8 := ⟨4 * t.val + b.val, by
  have h : t.val < 2 := lt_of_lt_of_eq t.isLt N_0
  have := b.isLt
  omega⟩

/-- What the grid reads of the input. -/
abbrev xin (c : Dev nD) : Vec Ideal S8x64x1024 .f32 := flatX (m ((c : Thread nD τ).loc main_arg0))
/-- What the grid reads of the codebook. -/
abbrev ein (c : Dev nD) : Vec Ideal S1024x64 .f32 := flipped (m ((c : Thread nD τ).loc main_arg1))

/-- Which block of the input a grid point reads. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- Every grid point reads the whole codebook. -/
theorem index1 : ∀ t : Fin cfg0.N, win0_1.index t 0 = 0 ∧ win0_1.index t 1 = 0 :=
  (by decide +kernel : ∀ t : Fin grid0.N, win0_1.index t 0 = 0 ∧ win0_1.index t 1 = 0)
/-- Which block of the rows a grid point writes. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
/-- Which block of the straight-through array a grid point writes. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
/-- Every grid point writes the one total. -/
theorem index4 : ∀ t : Fin cfg0.N, win0_4.index t 0 = 0 ∧ win0_4.index t 1 = 0 :=
  (by decide +kernel : ∀ t : Fin grid0.N, win0_4.index t 0 = 0 ∧ win0_4.index t 1 = 0)

/-- A place of the input's block, in the whole input. -/
theorem emb0 (t : Fin cfg0.N) (b : Fin 4) (d : Fin 64) (n : Fin 1024) :
    ((cfg0.win 0).blk t).view.emb (ix3 b d n) = ix3 (place t b) d n := by
  obtain ⟨h0, h1, h2⟩ := index0 t
  funext a
  apply Fin.ext
  match a with
  | ⟨0, _⟩ => show win0_0.index t 0 * 4 + 1 * b.val = 4 * t.val + b.val; rw [h0]; omega
  | ⟨1, _⟩ => show win0_0.index t 1 * 64 + 1 * d.val = d.val; rw [h1]; omega
  | ⟨2, _⟩ => show win0_0.index t 2 * 1024 + 1 * n.val = n.val; rw [h2]; omega

/-- A place of the codebook's block, in the whole codebook. -/
theorem emb1 (t : Fin cfg0.N) (k : Fin 1024) (d : Fin 64) :
    ((cfg0.win 1).blk t).view.emb (ix2 k d) = ix2 k d := by
  obtain ⟨h0, h1⟩ := index1 t
  funext a
  apply Fin.ext
  match a with
  | ⟨0, _⟩ => show win0_1.index t 0 * 1024 + 1 * k.val = k.val; rw [h0]; omega
  | ⟨1, _⟩ => show win0_1.index t 1 * 64 + 1 * d.val = d.val; rw [h1]; omega

/-- A place of the rows' block, in the whole array. -/
theorem emb2 (t : Fin cfg0.N) (b : Fin 4) (n : Fin 1024) (d : Fin 64) :
    ((cfg0.win 2).blk t).view.emb (ix3 b n d) = ix3 (place t b) n d := by
  obtain ⟨h0, h1, h2⟩ := index2 t
  funext a
  apply Fin.ext
  match a with
  | ⟨0, _⟩ => show win0_2.index t 0 * 4 + 1 * b.val = 4 * t.val + b.val; rw [h0]; omega
  | ⟨1, _⟩ => show win0_2.index t 1 * 1024 + 1 * n.val = n.val; rw [h1]; omega
  | ⟨2, _⟩ => show win0_2.index t 2 * 64 + 1 * d.val = d.val; rw [h2]; omega

/-- A place of the straight-through block, in the whole array. -/
theorem emb3 (t : Fin cfg0.N) (b : Fin 4) (d : Fin 64) (n : Fin 1024) :
    ((cfg0.win 3).blk t).view.emb (ix3 b d n) = ix3 (place t b) d n := by
  obtain ⟨h0, h1, h2⟩ := index3 t
  funext a
  apply Fin.ext
  match a with
  | ⟨0, _⟩ => show win0_3.index t 0 * 4 + 1 * b.val = 4 * t.val + b.val; rw [h0]; omega
  | ⟨1, _⟩ => show win0_3.index t 1 * 64 + 1 * d.val = d.val; rw [h1]; omega
  | ⟨2, _⟩ => show win0_3.index t 2 * 1024 + 1 * n.val = n.val; rw [h2]; omega

/-- The total's one place. -/
theorem emb4 (t : Fin cfg0.N) : ((cfg0.win 4).blk t).view.emb (ix2 0 0) = ix2 0 0 := by
  obtain ⟨h0, h1⟩ := index4 t
  funext a
  apply Fin.ext
  match a with
  | ⟨0, _⟩ => show win0_4.index t 0 * 1 + 1 * 0 = 0; rw [h0]
  | ⟨1, _⟩ => show win0_4.index t 1 * 1 + 1 * 0 = 0; rw [h1]

/-- What a grid point's input block holds, from the whole input. -/
theorem cell_read (c : Dev nD) (t : Fin cfg0.N) (b : Fin 4) (d : Fin 64) (n : Fin 1024) :
    (iblk (F := Ideal) m c 0 t : Vec Ideal S4x64x1024 .f32) (ix3 b d n) = xin m c (ix3 (place t b) d n) := by
  show V m c main_call0_v0 (((cfg0.win 0).blk t).view.emb (ix3 b d n)) = _
  rw [emb0, V_x]

/-- The block of the input that a grid point reads, batch by batch. -/
theorem slab_read (c : Dev nD) (t : Fin cfg0.N) (b : Fin 4) :
    slab (iblk (F := Ideal) m c 0 t) b = batch (xin m c) (place t b) := by
  funext j
  idx_vars j
  exact cell_read m c t b j1 j2

/-- A grid point reads the whole codebook. -/
theorem book_read (c : Dev nD) (t : Fin cfg0.N) : (iblk (F := Ideal) m c 1 t : Vec Ideal S1024x64 .f32) = ein m c := by
  funext j
  idx_vars j
  show V m c main_call0_v3 (((cfg0.win 1).blk t).view.emb (ix2 j0 j1)) = _
  rw [emb1, V_e]

/-- The block of chosen rows after a grid point. -/
theorem after_rows (c : Dev nD) (t : Fin cfg0.N) :
    (outsAt0 (F := Ideal) m c t.val t.isLt).1 = rows (iblk (F := Ideal) m c 0 t) (ein m c) := by
  by_cases h0 : t.val % 2 = 0
  · rw [outsAt0_A m c t h0]
    dsimp only
    rw [A_rows, book_read]
  · rw [outsAt0_B m c t h0]
    dsimp only
    rw [B_rows, book_read]

/-- The straight-through block after a grid point. -/
theorem after_turned (c : Dev nD) (t : Fin cfg0.N) :
    (outsAt0 (F := Ideal) m c t.val t.isLt).2.1 = turned (iblk (F := Ideal) m c 0 t) (ein m c) := by
  by_cases h0 : t.val % 2 = 0
  · rw [outsAt0_A m c t h0]
    dsimp only
    rw [A_turned, book_read]
  · rw [outsAt0_B m c t h0]
    dsimp only
    rw [B_turned, book_read]

/-- The total after the last grid point. -/
theorem after_total (c : Dev nD) (t : Fin cfg0.N) (h : t.val = 1) :
    (outsAt0 (F := Ideal) m c t.val t.isLt).2.2 = fun _ => added (iblk (F := Ideal) m c 0 t) (ein m c)
      (added (iblk (F := Ideal) m c 0 ⟨0, by rw [show cfg0.N = 2 from N_0]; decide⟩) (ein m c) 0) := by
  have h1 : ¬t.val % 2 = 0 := by omega
  rw [outsAt0_B m c t h1]
  dsimp only
  rw [B_total, book_read]
  have e0 : (outsAt0 (F := Ideal) m c (t.val - 1) (Nat.lt_of_le_of_lt (Nat.sub_le _ _) t.isLt)).2.2
      = fun _ => added (iblk (F := Ideal) m c 0 ⟨0, by rw [show cfg0.N = 2 from N_0]; decide⟩) (ein m c) 0 := by
    have hk : ∀ (k : ℕ) (hk : k < cfg0.N), k = 0 → (outsAt0 (F := Ideal) m c k hk).2.2
        = fun _ => added (iblk (F := Ideal) m c 0 ⟨0, by rw [show cfg0.N = 2 from N_0]; decide⟩) (ein m c) 0 := by
      intro k hk h; subst h
      have := outsAt0_A (F := Ideal) m c ⟨0, hk⟩ rfl
      dsimp only at this
      rw [this]
      dsimp only
      rw [A_total, book_read]
    exact hk _ _ (by omega)
  rw [e0]

/-- No two grid points write the same rows. -/
theorem meet2 : ∀ t t' : Fin cfg0.N, (cfg0.win 2).flush t = true → (cfg0.win 2).flush t' = true → t ≠ t' →
    Disjoint ((cfg0.win 2).blk t).view.set ((cfg0.win 2).blk t').view.set := fun t t' _ _ hne =>
  (cfg0.win 2).disjoint_blk fun h => hne (Fin.ext (by
    have h' : win0_2.index t 0 = win0_2.index t' 0 := congrFun h 0
    rwa [(index2 t).1, (index2 t').1] at h'))

/-- No two grid points write the same straight-through block. -/
theorem meet3 : ∀ t t' : Fin cfg0.N, (cfg0.win 3).flush t = true → (cfg0.win 3).flush t' = true → t ≠ t' →
    Disjoint ((cfg0.win 3).blk t).view.set ((cfg0.win 3).blk t').view.set := fun t t' _ _ hne =>
  (cfg0.win 3).disjoint_blk fun h => hne (Fin.ext (by
    have h' : win0_3.index t 0 = win0_3.index t' 0 := congrFun h 0
    rwa [(index3 t).1, (index3 t').1] at h'))

/-- The total is written out once. -/
theorem meet4 : ∀ t t' : Fin cfg0.N, (cfg0.win 4).flush t = true → (cfg0.win 4).flush t' = true → t ≠ t' →
    Disjoint ((cfg0.win 4).blk t).view.set ((cfg0.win 4).blk t').view.set := fun t t' hf hf' hne =>
  absurd (Fin.ext (by
    have h := (flush0_4 t).mp hf
    have h' := (flush0_4 t').mp hf'
    have l : t.val < 2 := lt_of_lt_of_eq t.isLt N_0
    have l' : t'.val < 2 := lt_of_lt_of_eq t'.isLt N_0
    omega)) hne

/-- Every batch stands in some grid point's block. -/
theorem exists_place (B : Fin 8) : ∃ (t : Fin cfg0.N) (b : Fin 4), place t b = B :=
  ⟨⟨B.val / 4, by rw [show cfg0.N = 2 from N_0]; omega⟩, ⟨B.val % 4, by omega⟩, Fin.ext (by simp only [place]; omega)⟩

/-- The chosen rows, as the grid leaves them. -/
theorem outQ_ix (c : Dev nD) (B : Fin 8) (n : Fin 1024) (d : Fin 64) :
    outQ m c (ix3 B n d) = k0_pay8 (F := Ideal) (ein m c) (batch (xin m c) B) (ix2 n d) := by
  obtain ⟨t, b, rfl⟩ := exists_place B
  have h := (dats (F := Ideal) m 0 c).arrAt_emb_eq_flushed 2 meet2 t (flush0_2 t) (ix3 b n d)
  rw [emb2] at h
  refine h.trans ?_
  show ((dats (F := Ideal) m 0 c).after 2 t) (ix3 b n d) = _
  rw [after0_2, after_rows, rows_ix, slab_read]

/-- A chosen row in the block of a grid point is the one in the whole array. -/
theorem rows_read (c : Dev nD) (t : Fin cfg0.N) (b : Fin 4) (n : Fin 1024) (d : Fin 64) :
    rows (iblk (F := Ideal) m c 0 t) (ein m c) (ix3 b n d) = outQ m c (ix3 (place t b) n d) := by
  rw [outQ_ix, rows_ix, slab_read]

/-- The straight-through array, as the grid leaves it. -/
theorem outS_ix (c : Dev nD) (B : Fin 8) (d : Fin 64) (n : Fin 1024) :
    (outS m c (ix3 B d n) : EReal)
      = (xin m c (ix3 B d n) : EReal) + ((outQ m c (ix3 B n d) : EReal) - (xin m c (ix3 B d n) : EReal)) := by
  obtain ⟨t, b, rfl⟩ := exists_place B
  have h := (dats (F := Ideal) m 0 c).arrAt_emb_eq_flushed 3 meet3 t (flush0_3 t) (ix3 b d n)
  rw [emb3] at h
  refine h.trans ?_
  show ((dats (F := Ideal) m 0 c).after 3 t) (ix3 b d n) = _
  rw [after0_3, after_turned, ← rows_read, ← cell_read]
  rfl

/-- The sum over one batch of the squared differences, in the whole arrays. -/
def missAt (x : Vec Ideal S8x64x1024 .f32) (q : Vec Ideal S8x1024x64 .f32) (B : Fin 8) : EReal :=
  ∑ n : Fin 1024, ∑ d : Fin 64, ((x (ix3 B d n) : EReal) - q (ix3 B n d)) * ((x (ix3 B d n) : EReal) - q (ix3 B n d))

/-- One batch's squared differences, from the whole arrays. -/
theorem miss_read (c : Dev nD) (t : Fin cfg0.N) (b : Fin 4) :
    miss (iblk (F := Ideal) m c 0 t) (ein m c) b = missAt (xin m c) (outQ m c) (place t b) := by
  unfold miss missAt
  refine Finset.sum_congr rfl fun n _ => Finset.sum_congr rfl fun d _ => ?_
  rw [rows_read, cell_read]

/-- The accumulated loss, as the grid leaves it. -/
theorem outL_ix (c : Dev nD) : (outL m c (ix2 0 0) : EReal) = ∑ B : Fin 8, missAt (xin m c) (outQ m c) B := by
  have h := (dats (F := Ideal) m 0 c).arrAt_emb_eq_flushed 4 meet4 ⟨1, by rw [show cfg0.N = 2 from N_0]; decide⟩
    ((flush0_4 _).mpr rfl) (ix2 0 0)
  rw [emb4] at h
  refine h.trans ?_
  show ((dats (F := Ideal) m 0 c).after 4 _) (ix2 0 0) = _
  rw [after0_4, after_total m c _ rfl]
  unfold added
  simp only [miss_read]
  rw [Fin.sum_univ_eight]
  simp only [zero_add]
  have e : ∀ f : Fin 8 → EReal,
      f 0 + f 1 + f 2 + f 3 + (f 4 + f 5 + f 6 + f 7) = f 0 + f 1 + f 2 + f 3 + f 4 + f 5 + f 6 + f 7 := by
    intro f
    simp only [add_assoc]
  exact e (missAt (xin m c) (outQ m c))

end Cert.Vq.Final

end
-- ==== Proof.Argmin.lean ====
/- The row that is nearer than every other: what a count of the rows at the least distance says, what the kernel's
   arg-min answers, and what the reference's arg-min answers. -/
module

public import proofs.«01_k».proof.Defs
public import proofs.«01_k».proof.Proof.RefOps
public import Idealize.ShloMosaic.Lib.Pointwise
public import Idealize.ShloMosaic.PureOps.Reduce
public import Idealize.ShloMosaic.PureOps.Ideal.Laws

@[expose] public section

set_option maxRecDepth 16384

noncomputable section

namespace Cert.Vq.Argmin

open Idealize.ShloMosaic

/-- `k` is where `f` is least, and nowhere else is it as small. -/
def Sole (f : Fin 1024 → EReal) (k : Fin 1024) : Prop := ∀ k', k' ≠ k → f k < f k'

/-- The sole least value is at most every value. -/
theorem Sole.le {f : Fin 1024 → EReal} {k : Fin 1024} (h : Sole f k) (k' : Fin 1024) : f k ≤ f k' := by
  by_cases e : k' = k
  · rw [e]
  · exact (h k' e).le

/-! ## The count -/

/-- A sum of one-bit words, each widened to 32 bits, counts the ones. -/
theorem fold_count (P : Fin 1024 → Prop) [DecidablePred P] (s : Finset (Fin 1024)) :
    Finset.fold IntOp.addi (0#32) (fun k => BitVec.setWidth 32 (BitVec.ofBool (decide (P k)))) s
      = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun m => ha (Finset.mem_filter.mp m).1)]
      simp only [h, decide_true]
      rw [Nat.add_comm, BitVec.ofNat_add]
      rfl
    · rw [if_neg h]
      simp only [h, decide_false]
      exact BitVec.zero_add _

/-- If exactly one place holds the least value, it is the sole least one. -/
theorem sole_of_count (f : Fin 1024 → EReal) (v : EReal)
    (h : Finset.fold IntOp.addi (0#32)
        (fun k => BitVec.setWidth 32 (BitVec.ofBool (decide (f k = Finset.fold min v f Finset.univ)))) Finset.univ = 1#32) :
    ∃ k, Sole f k := by
  rw [fold_count] at h
  have hc : (Finset.univ.filter fun k => f k = Finset.fold min v f Finset.univ).card ≤ 1024 :=
    (Finset.card_le_univ _).trans (by simp)
  have h1 : (Finset.univ.filter fun k => f k = Finset.fold min v f Finset.univ).card = 1 := by
    have := congrArg BitVec.toNat h
    rw [BitVec.toNat_ofNat] at this
    rw [Nat.mod_eq_of_lt (by omega)] at this
    exact this
  obtain ⟨k, hk⟩ := Finset.card_eq_one.mp h1
  have hm : ∀ k', f k' = Finset.fold min v f Finset.univ ↔ k' = k := fun k' => by
    have := Finset.ext_iff.mp hk k'
    rwa [Finset.mem_filter, Finset.mem_singleton, and_iff_right (Finset.mem_univ k')] at this
  refine ⟨k, fun k' hne => ?_⟩
  have le : Finset.fold min v f Finset.univ ≤ f k' :=
    ((Finset.le_fold_min (c := Finset.fold min v f Finset.univ)).mp le_rfl).2 k' (Finset.mem_univ k')
  rw [(hm k).mpr rfl]
  exact lt_of_le_of_ne le fun e => hne ((hm k').mp e.symm)

/-! ## The kernel's arg-min -/

/-- The shape of one batch's distances. -/
abbrev K2 : Shape := ⟨2, ![1024, 1024]⟩
/-- The shape of one batch's indices. -/
abbrev K1 : Shape := ⟨1, ![1024]⟩

/-- The kernel's arg-min along a row answers the sole least place. -/
theorem kernel_argmin (D : FVec Ideal K2 .f32) (h : K2.Reduces [1] K1) (n k : Fin 1024)
    (hk : Sole (fun k => D (ix2 n k)) k) : reduceIndex .argMin 1 K1 D h (ix1 n) = BitVec.ofNat 32 k.val := by
  show Ideal.reduceIndex .argMin 1 h D (ix1 n) = _
  have hd : ∀ a b : Fin 1024, h.drop (ix2 a b) = ix1 n ↔ a = n := fun a b => by
    have e : h.drop (ix2 a b) = ix1 a := by
      funext c
      fin_cases c
      exact Fin.ext (h.drop_apply_val_of_eq (ix2 a b) 0 0)
    rw [e, ix1_inj]
  unfold Ideal.reduceIndex
  dsimp only
  refine (congrArg (fun s : Finset K2.Idx => BitVec.ofNat 32 (Option.getD (s.image fun i : K2.Idx => (i 1).val).min 0))
    (a₂ := {ix2 n k}) ?_).trans rfl
  ext i
  obtain ⟨a, b, rfl⟩ : ∃ a b : Fin 1024, i = ix2 a b := ⟨i 0, i 1, eq_ix2 i⟩
  simp only [Finset.mem_filter, Finset.mem_univ, true_and, Finset.mem_singleton, hd, ix2_inj, reduceCtorEq, if_false]
  constructor
  · rintro ⟨rfl, hmin⟩
    refine ⟨rfl, ?_⟩
    by_contra hne
    exact hmin (ix2 a k) ((hd a k).mpr rfl) (hk b hne)
  · rintro ⟨rfl, rfl⟩
    refine ⟨rfl, fun i' hi' => ?_⟩
    obtain ⟨a', b', rfl⟩ : ∃ a' b' : Fin 1024, i' = ix2 a' b' := ⟨i' 0, i' 1, eq_ix2 i'⟩
    obtain rfl := (hd a' b').mp hi'
    exact not_lt.mpr (hk.le b')

/-! ## The reference's arg-min -/

/-- A left fold that takes the smaller of two pairs ends at the pair that is smaller than every other. -/
theorem foldl_sole {β : Type} (f : EReal × β → EReal × β → EReal × β) (hl : ∀ a b, a.1 < b.1 → f a b = a)
    (hr : ∀ a b, b.1 < a.1 → f a b = b) (hself : ∀ a, f a a = a) (p : EReal × β) :
    ∀ (L : List (EReal × β)) (init : EReal × β), (∀ q ∈ L, q = p ∨ p.1 < q.1) →
      (init = p ∨ (p.1 < init.1 ∧ p ∈ L)) → (∀ a b, p.1 < a.1 → p.1 < b.1 → p.1 < (f a b).1) → L.foldl f init = p
  | [], init, _, hi, _ => by
    rcases hi with h | ⟨_, h⟩
    · exact h
    · exact absurd h List.not_mem_nil
  | q :: L, init, hL, hi, hf => by
    rw [List.foldl_cons]
    refine foldl_sole f hl hr hself p L _ (fun q' h => hL q' (List.mem_cons_of_mem _ h)) ?_ hf
    rcases hi with rfl | ⟨hlt, hm⟩
    · rcases hL q List.mem_cons_self with rfl | h
      · exact .inl (hself _)
      · exact .inl (hl _ _ h)
    · rcases hL q List.mem_cons_self with rfl | h
      · exact .inl (hr _ _ hlt)
      · refine .inr ⟨hf _ _ hlt h, ?_⟩
        rcases List.mem_cons.mp hm with rfl | h'
        · exact absurd h (lt_irrefl _)
        · exact h'

section Reference

open Cert.ReferenceIdeal Cert.Vq.Ref
open Facts₀ Facts

attribute [local instance] Cert.ReferenceIdeal.Gen.facts

/-- The reference's comparison keeps the first pair when it is smaller. -/
theorem reducer_left (a b : EReal × BitVec 32) (h : a.1 < b.1) : reducer_argmin_f32_i32 (F := Ideal) a b = a := by
  simp [reducer_argmin_f32_i32, Ideal.cmpf_def, Ideal.cmp, IntOp.ori, IntOp.andi, Scalar.select, h, h.ne]

/-- The reference's comparison takes the second pair when it is smaller. -/
theorem reducer_right (a b : EReal × BitVec 32) (h : b.1 < a.1) : reducer_argmin_f32_i32 (F := Ideal) a b = b := by
  simp [reducer_argmin_f32_i32, Ideal.cmpf_def, Ideal.cmp, IntOp.ori, IntOp.andi, Scalar.select, h.not_gt, h.ne']

/-- The reference's comparison of a pair with itself answers the pair. -/
theorem reducer_self (a : EReal × BitVec 32) : reducer_argmin_f32_i32 (F := Ideal) a a = a := by
  simp [reducer_argmin_f32_i32, Scalar.select]

/-- What the reference's comparison answers is above whatever both its arguments are above. -/
theorem reducer_above (v : EReal) (a b : EReal × BitVec 32) (ha : v < a.1) (hb : v < b.1) :
    v < (reducer_argmin_f32_i32 (F := Ideal) a b).1 := by
  rcases lt_trichotomy a.1 b.1 with h | h | h
  · rw [reducer_left a b h]; exact ha
  · simp only [reducer_argmin_f32_i32, Scalar.select]
    split_ifs
    · exact ha
    · exact hb
  · rw [reducer_right a b h]; exact hb

/-- The reference's arg-min, over any shape: where one place of a fiber holds less than all others and less than the
    starting value, the answer is the place's index. -/
theorem argIndex_sole {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (i : s.Idx) (hi : h.drop i = j) (hlt : ∀ i', h.drop i' = j → i' ≠ i → (x i : EReal) < x i')
    (h0 : (x i : EReal) < ix (Shape.Idx.first hu)) :
    argIndex (reducer_argmin_f32_i32 (F := Ideal)) x y ix iy h hu j = y i := by
  refine congrArg Prod.snd (a₂ := (x i, y i)) ?_
  rw [Ideal.argReduce_eq_reduce2, Host.reduce2_eq_foldl_fiber]
  refine foldl_sole (reducer_argmin_f32_i32 (F := Ideal)) reducer_left reducer_right reducer_self
    (x i, y i) _ _ ?_ ?_ (reducer_above _)
  · intro q hq
    obtain ⟨n, hn, rfl⟩ := List.mem_map.mp hq
    have hn' := of_decide_eq_true (List.mem_filter.mp hn).2
    by_cases e : s.rowMajor.symm n = i
    · rw [e]; exact .inl rfl
    · exact .inr (hlt _ hn' e)
  · refine .inr ⟨h0, List.mem_map.mpr ⟨s.rowMajor i, List.mem_filter.mpr ⟨List.mem_finRange _, ?_⟩, ?_⟩⟩
    · rw [Equiv.symm_apply_apply]
      exact decide_eq_true hi
    · rw [Equiv.symm_apply_apply]

/-- The starting value of the reference's arg-min is the top of the extended reals. -/
theorem inf_top : (Ideal.ofBits FTy.f32 0x7F800000#32 : EReal) = ⊤ := by
  simp [Ideal.ofBits, Ideal.ieee]

/-- The reference's arg-min along the last axis answers the sole least place. -/
theorem nearest_sole (d : FVec Ideal S8x1024x1024 .f32) (B : Fin 8) (n k : Fin 1024)
    (hk : Sole (fun k => d (ix3 B n k)) k) : nearest d (ix2 B n) = BitVec.ofNat 32 k.val := by
  have hd : ∀ (a : Fin 8) (b c : Fin 1024),
      reducesTo_S8x1024x1024_S8x1024_d2.drop (ix3 a b c) = ix2 B n ↔ a = B ∧ b = n := fun a b c => by
    have e : reducesTo_S8x1024x1024_S8x1024_d2.drop (ix3 a b c) = ix2 a b := by
      funext i
      fin_cases i
      · exact Fin.ext (reducesTo_S8x1024x1024_S8x1024_d2.drop_apply_val_of_eq (ix3 a b c) 0 0)
      · exact Fin.ext (reducesTo_S8x1024x1024_S8x1024_d2.drop_apply_val_of_eq (ix3 a b c) 1 1)
    rw [e, ix2_inj]
  have h1 : ∀ i', reducesTo_S8x1024x1024_S8x1024_d2.drop i' = ix2 B n → i' ≠ ix3 B n k →
      (d (ix3 B n k) : EReal) < d i' := by
    intro i' hi' hne
    obtain ⟨a, b, c, rfl⟩ : ∃ (a : Fin 8) (b c : Fin 1024), i' = ix3 a b c := ⟨_, _, _, eq_ix3 _⟩
    obtain ⟨rfl, rfl⟩ := (hd a b c).mp hi'
    exact hk c fun h => hne (by rw [h])
  have h2 : (d (ix3 B n k) : EReal) < constant (F := Ideal) S_ .f32 0x7F800000#32 (Shape.Idx.first h_S_) := by
    obtain ⟨k', hne⟩ : ∃ k' : Fin 1024, k' ≠ k := exists_ne k
    have e : (constant (F := Ideal) S_ .f32 0x7F800000#32 (Shape.Idx.first h_S_) : EReal) = ⊤ :=
      (constant_apply _ _ _ _).trans inf_top
    rw [e]
    exact (hk k' hne).trans_le le_top
  exact (argIndex_sole d (iotaInDim S8x1024x1024 32 2) (constant S_ .f32 0x7F800000#32) (constantI S_ 32 0#32)
    reducesTo_S8x1024x1024_S8x1024_d2 h_S_ (ix2 B n) (ix3 B n k) ((hd B n k).mpr ⟨rfl, rfl⟩) h1 h2).trans rfl

end Reference

end Cert.Vq.Argmin

end
-- ==== Proof.Distance.lean ====
/- The distances the kernel takes are the reference's, of the codebook with every group of 128 rows reversed. -/
module

public import proofs.«01_k».proof.Defs
public import proofs.«01_k».proof.Proof.RefOps
public import proofs.«01_k».proof.Proof.Final
public import proofs.«01_k».proof.Proof.Argmin
public import Idealize.ShloMosaic.Lib.Pointwise
public import Idealize.ShloMosaic.PureOps.Ideal.Laws

@[expose] public section

set_option maxRecDepth 16384

noncomputable section

namespace Cert.Vq.Distance

open Idealize.ShloMosaic

section Reference

open Cert.ReferenceIdeal Cert.Vq.Ref
open Facts₀ Facts

attribute [local instance] Cert.ReferenceIdeal.Gen.facts

/-- The positions' array at an element is the input with rows and columns joined. -/
theorem patches_ix (x : FVec Ideal S8x64x32x32 .f32) (B : Fin 8) (n : Fin 1024) (d : Fin 64) :
    patches x (ix3 B n d) = Cert.Vq.Run.flatX x (ix3 B d n) := by
  unfold patches Cert.Vq.Run.flatX
  pointwise

/-- The codebook once per batch, at an element. -/
theorem books_ix (e : FVec Ideal S1024x64 .f32) (B : Fin 8) (k : Fin 1024) (d : Fin 64) :
    books e (ix3 B k d) = e (ix2 k d) := by
  unfold books
  pointwise

/-- A distance of the reference, as sums over the channels. -/
theorem distances_ix (p b : FVec Ideal S8x1024x64 .f32) (B : Fin 8) (n k : Fin 1024) :
    (distances p b (ix3 B n k) : EReal)
      = Ideal.sqrt (max (∑ d : Fin 64, p (ix3 B n d) * p (ix3 B n d) + ∑ d : Fin 64, b (ix3 B k d) * b (ix3 B k d)
          - Ideal.ofBits FTy.f32 0x40000000#32 * ∑ d : Fin 64, p (ix3 B n d) * b (ix3 B k d)) 0) := by
  unfold distances
  pointwise

end Reference

section Kernel

open Cert.KernelIdeal Cert.KernelIdeal.Gen

/-- The distances the kernel takes of one batch. -/
def kdist (v0 : Vec Ideal S1024x64 .f32) (v6 : Vec Ideal S1x64x1024 .f32) : FVec Ideal S1024x1024 .f32 :=
  sqrt (maximumf
    (subf
      (addf
        (broadcastTo S1024x1024 (shapeCast S1024x1 (multiReduction .add [1] S1024 (mulf (k0_pay7 v6) (k0_pay7 v6))
          0x00000000#32 reduces_S1024x64_S1024 (.inl rfl) rfl) shapeCasts_S1024_S1024x1) broadcasts_S1024x1_S1024x1024)
        (broadcastTo S1024x1024 (shapeCast S1x1024 (k0_pay5 v0) shapeCasts_S1024_S1x1024) broadcasts_S1x1024_S1024x1024))
      (matmul dot_S1024x64_S64x1024_S1024x1024_1_0_0_1_n_n none (addf (k0_pay7 v6) (k0_pay7 v6))
        (transpose S64x1024 [1, 0] (k0_pay4 v0) transposes_S1024x64_p1_0_S64x1024)
        (constant S1024x1024 .f32 0x00000000#32)))
    (broadcast S1024x1024 (Scalar.ofBits .f32 0x00000000#32)))

/-- A distance of the kernel, as sums over the channels. -/
theorem kdist_ix (v0 : Vec Ideal S1024x64 .f32) (v6 : Vec Ideal S1x64x1024 .f32) (n k : Fin 1024) :
    (kdist v0 v6 (ix2 n k) : EReal)
      = Ideal.sqrt (max (∑ d : Fin 64, v6 (ix3 0 d n) * v6 (ix3 0 d n) + ∑ d : Fin 64, v0 (ix2 k d) * v0 (ix2 k d)
          - ∑ d : Fin 64, (v6 (ix3 0 d n) + v6 (ix3 0 d n)) * v0 (ix2 k d)) 0) := by
  unfold kdist k0_pay7 k0_pay5 k0_pay4
  pointwise

/-- The place of a row once its group of 128 is reversed. -/
def mirror (k : Fin 1024) : Fin 1024 := ⟨k.val / 128 * 128 + (127 - k.val % 128), by omega⟩

/-- Reversing a group twice changes nothing. -/
theorem mirror_mirror (k : Fin 1024) : mirror (mirror k) = k := by
  apply Fin.ext
  show (k.val / 128 * 128 + (127 - k.val % 128)) / 128 * 128 + (127 - (k.val / 128 * 128 + (127 - k.val % 128)) % 128) = k.val
  omega

/-- A row of the reversed codebook is the codebook's row at the mirrored place. -/
theorem flipped_ix (e : FVec Ideal S1024x64 .f32) (k : Fin 1024) (d : Fin 64) :
    Cert.Vq.Run.flipped e (ix2 k d) = e (ix2 (mirror k) d) := by
  unfold Cert.Vq.Run.flipped
  pointwise
  refine congrArg e ((ix2_inj _ _ _ _).mpr ⟨Fin.ext ?_, rfl⟩)
  show k.val / 128 * 128 + (128 - (k.val % 128 + 1)) = k.val / 128 * 128 + (127 - k.val % 128)
  omega

/-- The row of the kernel's codebook the kernel picks, by the one-hot product. -/
theorem pay8_ix (v0 : Vec Ideal S1024x64 .f32) (v6 : Vec Ideal S1x64x1024 .f32) (n k : Fin 1024) (d : Fin 64)
    (hz : reduceIndex .argMin 1 S1024 (kdist v0 v6) reduces_S1024x1024_S1024 (ix1 n) = BitVec.ofNat 32 k.val) :
    k0_pay8 (F := Ideal) v0 v6 (ix2 n d) = v0 (ix2 k d) := by
  have hp : k0_pay8 (F := Ideal) v0 v6 = matmul dot_S1024x1024_S1024x64_S1024x64_1_0_0_1_n_n none
      (select (cmpi .eq
        (broadcastTo S1024x1024 (shapeCast S1024x1 (reduceIndex .argMin 1 S1024 (kdist v0 v6) reduces_S1024x1024_S1024)
          shapeCasts_S1024_S1024x1) broadcasts_S1024x1_S1024x1024)
        (broadcastTo S1024x1024 (iota .tc S1x1024 32 [1] iota_S1x1024_d1_w32) broadcasts_S1x1024_S1024x1024))
        (broadcast S1024x1024 (Scalar.ofBits .f32 0x3F800000#32)) (broadcast S1024x1024 (Scalar.ofBits .f32 0x00000000#32)))
      (k0_pay4 v0) (constant S1024x64 .f32 0x00000000#32) := rfl
  rw [hp]
  unfold k0_pay4
  generalize reduceIndex .argMin 1 S1024 (kdist v0 v6) reduces_S1024x1024_S1024 = z at hz ⊢
  pointwise
  rw [hz]
  have hs : ∀ x : Fin 1024, (Scalar.select (IntOp.cmpi CmpIPredicate.eq (BitVec.ofNat 32 k.val) (BitVec.ofNat 32 x.val))
      (v0 (ix2 x d)) 0 : EReal) = if x = k then v0 (ix2 x d) else 0 := fun x => by
    have hx : (BitVec.ofNat 32 k.val = BitVec.ofNat 32 x.val) ↔ x = k := by
      constructor
      · intro h
        have h' := congrArg BitVec.toNat h
        rw [BitVec.toNat_ofNat, BitVec.toNat_ofNat, Nat.mod_eq_of_lt (by omega), Nat.mod_eq_of_lt (by omega)] at h'
        exact Fin.ext h'.symm
      · rintro rfl; rfl
    by_cases h : x = k
    · simp [Scalar.select, IntOp.cmpi, hx, h]
    · have hb : (BitVec.ofNat 32 k.val == BitVec.ofNat 32 x.val) = false := beq_false_of_ne fun e => h (hx.mp e)
      simp [Scalar.select, IntOp.cmpi, hb, h]
  rw [Finset.sum_congr rfl fun x _ => hs x, Finset.sum_ite_eq' Finset.univ k]
  exact if_pos (Finset.mem_univ k)

/-- Doubling a factor doubles the product, on the extended reals. -/
theorem add_self_mul (v c : EReal) : (v + v) * c = v * c + v * c := by
  have h : ∀ w : EReal, w + w = (1 + 1) * w := fun w => by
    rw [EReal.right_distrib_of_nonneg zero_le_one zero_le_one, one_mul]
  rw [h v, h (v * c), mul_assoc]

/-- Two times a number is the number added to itself. -/
theorem two_mul_eq (S : EReal) : Ideal.ofBits FTy.f32 0x40000000#32 * S = S + S := by
  have h2 : (Ideal.ofBits FTy.f32 0x40000000#32 : EReal) = 1 + 1 := by
    simp [Ideal.ofBits, Ideal.ieee]
    rw [← EReal.coe_mul]
    norm_num
    rfl
  rw [h2, EReal.right_distrib_of_nonneg zero_le_one zero_le_one, one_mul]

/-- The kernel's distances of a batch are the reference's, at the row's place before the groups were reversed. -/
theorem kdist_eq (x : FVec Ideal S8x64x32x32 .f32) (e : FVec Ideal S1024x64 .f32) (B : Fin 8) (n k : Fin 1024) :
    (kdist (Run.flipped e) (Final.batch (Run.flatX x) B) (ix2 n k) : EReal)
      = Ref.distances (Ref.patches x) (Ref.books e) (ix3 B n (mirror k)) := by
  rw [kdist_ix, distances_ix]
  simp only [patches_ix, books_ix, flipped_ix, two_mul_eq, add_self_mul, Finset.sum_add_distrib]
  rfl

/-- At every position, the kernel's arg-min is the mirrored place of the sole nearest row. -/
theorem kernel_index (x : FVec Ideal S8x64x32x32 .f32) (e : FVec Ideal S1024x64 .f32) (B : Fin 8) (n k : Fin 1024)
    (hk : Argmin.Sole (fun k => Ref.distances (Ref.patches x) (Ref.books e) (ix3 B n k)) k) (d : Fin 64) :
    k0_pay8 (F := Ideal) (Run.flipped e) (Final.batch (Run.flatX x) B) (ix2 n d) = e (ix2 k d) := by
  rw [pay8_ix _ _ n (mirror k) d, flipped_ix, mirror_mirror]
  refine Argmin.kernel_argmin _ _ n (mirror k) fun k' hne => ?_
  dsimp only
  rw [kdist_eq, kdist_eq, mirror_mirror]
  exact hk _ fun h => hne (by rw [← h, mirror_mirror])

end Kernel

end Cert.Vq.Distance

end
-- ==== Proof.Values.lean ====
/- The reference's results and the kernel's, both as rows of the codebook at the nearest rows' places. -/
module

public import proofs.«01_k».proof.Defs
public import proofs.«01_k».proof.Proof.RefRun
public import proofs.«01_k».proof.Proof.Final
public import proofs.«01_k».proof.Proof.Argmin
public import proofs.«01_k».proof.Proof.Distance
public import Idealize.ShloMosaic.Lib.Pointwise
public import Idealize.ShloMosaic.Lib.Routing.Ops
public import Idealize.ShloMosaic.PureOps.Ideal.Laws

@[expose] public section

set_option maxRecDepth 16384

noncomputable section

namespace Cert.Vq.Values

open Idealize.ShloMosaic
open Cert.ReferenceIdeal Cert.Vq.Ref
open Facts₀ Facts

attribute [local instance] Cert.ReferenceIdeal.Gen.facts

/-- The position a pair of image coordinates stands at. -/
def pos (h w : Fin 32) : Fin 1024 := ⟨h.val * 32 + w.val, by omega⟩

/-- The row number a position stands at among all batches. -/
def spot (B : Fin 8) (n : Fin 1024) : Fin 8192 := ⟨B.val * 1024 + n.val, by omega⟩

/-- Every row index in range, the gather reads the row it names. -/
theorem gather_ix (e : FVec Ideal S1024x64 .f32) (i : IVec S8192x1 32) (r : Fin 8192) (d : Fin 64) (k : Fin 1024)
    (hi : i (ix2 r 0) = BitVec.ofNat 32 k.val) :
    Host.gather gather_S1024x64_S8192x1_S8192x64_1_0_n_n_0_1_164 e i (ix2 r d) = e (ix2 k d) := by
  refine Routing.gather_row _ ?_ ?_ ?_ ?_ ?_ e i r d k hi (by decide) <;> rfl

/-- A row number's word, read signed, is the row number. -/
theorem toInt_word (k : Fin 1024) : (BitVec.ofNat 32 k.val).toInt = (k.val : Int) := by
  rw [BitVec.toInt_eq_toNat_of_lt, BitVec.toNat_ofNat, Nat.mod_eq_of_lt (by omega)]
  rw [BitVec.toNat_ofNat, Nat.mod_eq_of_lt (by omega)]
  omega

/-- A row number is not negative, so it is read as it stands. -/
theorem wrapped_ix (z : IVec S8192 32) (r : Fin 8192) (k : Fin 1024) (hz : z (ix1 r) = BitVec.ofNat 32 k.val) :
    wrapped z (ix2 r 0) = BitVec.ofNat 32 k.val := by
  unfold wrapped
  pointwise
  rw [hz]
  have h : ((BitVec.ofNat 32 k.val).slt 0#32) = false := by
    rw [BitVec.slt, toInt_word]
    exact decide_eq_false (by simp)
  simp [Scalar.select, IntOp.cmpi, h]

/-- A row number is in range, so the row is the gathered one. -/
theorem taken_ix (e : FVec Ideal S1024x64 .f32) (i : IVec S8192x1 32) (r : Fin 8192) (d : Fin 64) (k : Fin 1024)
    (hi : i (ix2 r 0) = BitVec.ofNat 32 k.val) : taken e i (ix2 r d) = e (ix2 k d) := by
  unfold taken
  have hg := gather_ix e i r d k hi
  generalize Host.gather gather_S1024x64_S8192x1_S8192x64_1_0_n_n_0_1_164 e i = g at hg ⊢
  pointwise
  rw [hg]
  have h0 : ((0#32).sle (BitVec.ofNat 32 k.val)) = true := by
    rw [BitVec.sle, toInt_word]
    exact decide_eq_true (by simp)
  have h1 : ((BitVec.ofNat 32 k.val).sle 1023#32) = true := by
    rw [BitVec.sle, toInt_word]
    have : (1023#32).toInt = 1023 := by decide
    exact decide_eq_true (by rw [this]; omega)
  have hf : (fun x : Fin 1 => IntOp.andi (IntOp.cmpi CmpIPredicate.sge (i (ix2 r x)) 0#32)
      (IntOp.cmpi CmpIPredicate.sle (i (ix2 r x)) 1023#32)) = fun _ => 1#1 := by
    funext x
    rw [Subsingleton.elim x 0, hi]
    simp [IntOp.cmpi, IntOp.andi, h0, h1]
  rw [hf]
  rfl

/-- An array of positions by batch, read as one list. -/
theorem flat_ix (z : IVec S8x1024 32) (r : Fin 8192) :
    shapeCast S8192 z shapeCasts_S8x1024_S8192 (ix1 r) = z (ix2 ⟨r.val / 1024, by omega⟩ ⟨r.val % 1024, by omega⟩) := by
  pointwise

/-- The reference's row at a position is the sole nearest one. -/
theorem chosen_ix (x : FVec Ideal S8x64x32x32 .f32) (e : FVec Ideal S1024x64 .f32) (B : Fin 8) (h w : Fin 32) (d : Fin 64)
    (k : Fin 1024) (hk : Argmin.Sole (fun k => distances (patches x) (books e) (ix3 B (pos h w) k)) k) :
    chosen x e (ix4 B h w d) = e (ix2 k d) := by
  have hz := Argmin.nearest_sole _ B (pos h w) k hk
  unfold chosen index
  generalize nearest (distances (patches x) (books e)) = z at hz ⊢
  pointwise
  refine taken_ix _ _ _ _ _ (wrapped_ix _ _ _ ?_)
  refine (flat_ix z _).trans (Eq.trans (congrArg z ((ix2_inj _ _ _ _).mpr ⟨Fin.ext ?_, Fin.ext ?_⟩)) hz)
  · show (B.val * 1024 + h.val * 32 + w.val) / 1024 = B.val
    omega
  · show (B.val * 1024 + h.val * 32 + w.val) % 1024 = h.val * 32 + w.val
    omega

end Cert.Vq.Values

end
-- ==== Proof.Tie.lean ====
/- What the precondition says: at every position exactly one row is nearest. -/
module

public import proofs.«01_k».proof.Defs
public import proofs.«01_k».proof.Proof.RefOps
public import proofs.«01_k».proof.Proof.Argmin
public import proofs.«01_k».proof.Proof.Gen.Pre_no_tie
public import Idealize.ShloMosaic.Lib.Pointwise
public import Idealize.ShloMosaic.PureOps.Ideal.Laws

@[expose] public section

set_option maxRecDepth 16384

noncomputable section

namespace Cert.Vq.Tie

open Cert.Pre_no_tie Idealize.ShloMosaic
open Facts

attribute [local instance] Cert.Pre_no_tie.Gen.facts

/-- Where the count of least distances is one everywhere, every position has a sole nearest row. -/
theorem part (dis : FVec Ideal S8x1024x1024 .f32) (h : fn_part1 (F := Ideal) dis = fun _ => 1#1) (B : Fin 8)
    (n : Fin 1024) : ∃ k, Argmin.Sole (fun k => dis (ix3 B n k)) k := by
  have h' := congrFun h (ix2 B n)
  unfold fn_part1 at h'
  pointwise at h'
  exact Argmin.sole_of_count _ _ (of_decide_eq_true ((BitVec.ofBool_eq_iff_eq (b' := true)).mp h'))

/-- The precondition is that count, taken of the reference's distances. -/
theorem fn_eq (x : FVec Ideal S8x64x32x32 .f32) (e : FVec Ideal S1024x64 .f32) :
    fn (F := Ideal) x e = fn_part1 (F := Ideal) (Ref.distances (Ref.patches x) (Ref.books e)) := rfl

/-- Under the precondition every position has a sole nearest row of the codebook. -/
theorem sole (x : FVec Ideal S8x64x32x32 .f32) (e : FVec Ideal S1024x64 .f32) (h : fn (F := Ideal) x e = fun _ => 1#1)
    (B : Fin 8) (n : Fin 1024) :
    ∃ k, Argmin.Sole (fun k => Ref.distances (Ref.patches x) (Ref.books e) (ix3 B n k)) k :=
  part _ ((fn_eq x e).symm.trans h) B n

end Cert.Vq.Tie

end
-- ==== Proof.Results.lean ====
/- The reference's results, an element at a time, and the kernel's arrays carried to the shapes of the results. -/
module

public import proofs.«01_k».proof.Defs
public import proofs.«01_k».proof.Proof.RefRun
public import proofs.«01_k».proof.Proof.Final
public import proofs.«01_k».proof.Proof.Argmin
public import proofs.«01_k».proof.Proof.Distance
public import proofs.«01_k».proof.Proof.Values
public import proofs.«01_k».proof.Proof.Tie
public import Idealize.ShloMosaic.Lib.Pointwise
public import Idealize.ShloMosaic.PureOps.Ideal.Laws

@[expose] public section

set_option maxRecDepth 16384

noncomputable section

namespace Cert.Vq.Results

open Idealize.ShloMosaic
open Cert.ReferenceIdeal Cert.Vq.Ref Cert.Vq.Values
open Facts₀ Facts

attribute [local instance] Cert.ReferenceIdeal.Gen.facts

/-- The positions in the shape of the image, at an element. -/
theorem image_ix (x : FVec Ideal S8x64x32x32 .f32) (B : Fin 8) (h w : Fin 32) (d : Fin 64) :
    image x (ix4 B h w d) = Run.flatX x (ix3 B d (pos h w)) := by
  unfold image
  pointwise
  exact Distance.patches_ix x B (pos h w) d

/-- Every position is one pair of image coordinates. -/
theorem pos_split (n : Fin 1024) : pos ⟨n.val / 32, by omega⟩ ⟨n.val % 32, by omega⟩ = n := by
  apply Fin.ext
  show n.val / 32 * 32 + n.val % 32 = n.val
  omega

/-- A sum over the positions is a sum over the image's rows and columns. -/
theorem sum_pos (f : Fin 1024 → EReal) : ∑ n : Fin 1024, f n = ∑ h : Fin 32, ∑ w : Fin 32, f (pos h w) := by
  rw [← Equiv.sum_comp (finProdFinEquiv : Fin 32 × Fin 32 ≃ Fin 1024) f, Fintype.sum_prod_type]
  refine Finset.sum_congr rfl fun h _ => Finset.sum_congr rfl fun w _ => congrArg f (Fin.ext ?_)
  show w.val + 32 * h.val = h.val * 32 + w.val
  omega

/-- An array by position that agrees with one by row and column is that one reshaped. -/
theorem reshaped (Q : Vec Ideal S8x1024x64 .f32) (q : FVec Ideal S8x32x32x64 .f32)
    (hQ : ∀ B h w d, (Q (ix3 B (pos h w) d) : EReal) = q (ix4 B h w d)) (hc : S8x1024x64.ShapeCasts S8x64x32x32) :
    shapeCast S8x64x32x32 Q hc = shapeCast S8x64x32x32 q shapeCasts_S8x32x32x64_S8x64x32x32 := by
  have hq : Q = shapeCast S8x1024x64 q shapeCasts_S8x1024x64_S8x32x32x64.symm := by
    funext j
    obtain ⟨B, n, d, rfl⟩ : ∃ (B : Fin 8) (n : Fin 1024) (d : Fin 64), j = ix3 B n d := ⟨_, _, _, eq_ix3 j⟩
    pointwise
    exact (congrArg (fun n => Q (ix3 B n d)) (pos_split n)).symm.trans (hQ B _ _ d)
  rw [hq, shapeCast_comp]

/-- The straight-through array at an element. -/
theorem through_ix (p q : FVec Ideal S8x32x32x64 .f32) (B : Fin 8) (h w : Fin 32) (d : Fin 64) :
    (through p q (ix4 B d h w) : EReal) = p (ix4 B h w d) + (q (ix4 B h w d) - p (ix4 B h w d)) := by
  unfold through
  pointwise

/-- The mean squared difference as a sum over batches, rows, columns and channels. -/
theorem meanSq_eq (p q : FVec Ideal S8x32x32x64 .f32) (j : S_.Idx) : (meanSq p q j : EReal)
    = Ideal.div (∑ B : Fin 8, ∑ h : Fin 32, ∑ w : Fin 32, ∑ d : Fin 64,
        (p (ix4 B h w d) - q (ix4 B h w d)) * (p (ix4 B h w d) - q (ix4 B h w d))) (Ideal.ofBits FTy.f32 0x49000000#32) := by
  unfold meanSq
  pointwise
  rw [Ideal.hostReduceAdd_total _ (fun b => b.elim0), zero_add, sum_idx4]
  rfl

/-- The kernel's mean of its total. -/
theorem meanOf_eq (l : FVec Ideal Cert.KernelIdeal.S1x1 .f32) (j : Cert.KernelIdeal.S_.Idx) :
    (Run.meanOf l j : EReal) = Ideal.div (l (ix2 0 0)) (Ideal.ofBits FTy.f32 0x49000000#32) := by
  unfold Run.meanOf
  pointwise

section Joined

variable (m : (ℓ : Loc Cert.KernelIdeal.nD Cert.KernelIdeal.τ Cert.KernelIdeal.sig) → Buf (Elt Ideal) ℓ)
  (c : Dev Cert.KernelIdeal.nD)

/-- The input the kernel is given. -/
abbrev argX : FVec Ideal S8x64x32x32 .f32 := m ((c.tc : Thread Cert.KernelIdeal.nD Cert.KernelIdeal.τ).loc Cert.KernelIdeal.main_arg0)
/-- The codebook the kernel is given. -/
abbrev argE : FVec Ideal S1024x64 .f32 := m ((c.tc : Thread Cert.KernelIdeal.nD Cert.KernelIdeal.τ).loc Cert.KernelIdeal.main_arg1)

variable (hp : Cert.Pre_no_tie.fn (F := Ideal) (argX m c) (argE m c) = fun _ => 1#1)

include hp

/-- The rows the kernel picks are the rows the reference picks. -/
theorem outQ_eq (B : Fin 8) (h w : Fin 32) (d : Fin 64) :
    (Run.outQ m c (ix3 B (pos h w) d) : EReal) = chosen (argX m c) (argE m c) (ix4 B h w d) := by
  obtain ⟨k, hk⟩ := Tie.sole _ _ hp B (pos h w)
  rw [Final.outQ_ix]
  exact (Distance.kernel_index _ _ B (pos h w) k hk d).trans (chosen_ix _ _ B h w d k hk).symm

/-- The quantised array is the reference's. -/
theorem quantised (hc : Cert.KernelIdeal.S8x1024x64.ShapeCasts Cert.KernelIdeal.S8x64x32x32) :
    shapeCast Cert.KernelIdeal.S8x64x32x32 (Run.outQ m c) hc
      = shapeCast S8x64x32x32 (chosen (argX m c) (argE m c)) shapeCasts_S8x32x32x64_S8x64x32x32 :=
  reshaped _ _ (outQ_eq m c hp) hc

/-- The straight-through array is the reference's. -/
theorem straight (hc : Cert.KernelIdeal.S8x64x1024.ShapeCasts Cert.KernelIdeal.S8x64x32x32) :
    shapeCast Cert.KernelIdeal.S8x64x32x32 (Run.outS m c) hc = through (image (argX m c)) (chosen (argX m c) (argE m c)) := by
  funext j
  obtain ⟨B, d, h, w, rfl⟩ : ∃ (B : Fin 8) (d : Fin 64) (h w : Fin 32), j = ix4 B d h w := ⟨_, _, _, _, eq_ix4 j⟩
  refine Eq.trans ?_ (through_ix _ _ B h w d).symm
  rw [image_ix, ← outQ_eq m c hp]
  refine Eq.trans ?_ (Final.outS_ix m c B d (pos h w))
  generalize Run.outS m c = S
  pointwise
  rfl

/-- The mean the kernel takes is the reference's loss. -/
theorem losses : Run.meanOf (Run.outL m c) = loss (argX m c) (argE m c) := by
  funext j
  refine (meanOf_eq _ j).trans (Eq.trans ?_ (meanSq_eq _ _ j).symm)
  rw [Final.outL_ix]
  refine congrArg (fun v => Ideal.div v _) (Finset.sum_congr rfl fun B _ => ?_)
  unfold Final.missAt
  rw [sum_pos]
  refine Finset.sum_congr rfl fun h _ => Finset.sum_congr rfl fun w _ => Finset.sum_congr rfl fun d _ => ?_
  rw [image_ix, ← outQ_eq m c hp]

end Joined

end Cert.Vq.Results

end
-- ==== Proof.lean ====
/- The proof of the certificate's claim: the kernel and the reference run and keep their arguments, the idealized kernel
   is the kernel, and on every input with no tie the idealized kernel's five results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_no_tie
public import proofs.«01_k».proof.Proof.KernelRun
public import proofs.«01_k».proof.Proof.RefRun
public import proofs.«01_k».proof.Proof.Results
public import Idealize.ShloMosaic.Adequacy
public import Idealize.ShloMosaic.Init

@[expose] public section

set_option maxRecDepth 16384

noncomputable section

namespace Cert.Proof

open Idealize.ShloMosaic Idealize.SL.Sem
open Cert.Vq.Results

attribute [local instance] Cert.Kernel.Gen.facts Cert.KernelIdeal.Gen.facts Cert.ReferenceIdeal.Gen.facts Cert.Pre_no_tie.Gen.facts

/-- On every input with no tie, the five results of the idealized kernel are the reference's. -/
theorem algebraic : Cert.algebraic_KernelIdeal_ReferenceIdeal := by
  intro m g m' g' hp hargs
  refine ⟨fun c => Cert.Vq.Ref.through (Cert.Vq.Ref.image (argX m c)) (Cert.Vq.Ref.chosen (argX m c) (argE m c)),
    fun c => Cert.Vq.Ref.loss (argX m c) (argE m c), fun c => Cert.Vq.Ref.loss (argX m c) (argE m c),
    fun c => addf (mulf (constant Cert.ReferenceIdeal.S_ .f32 0x3E4CCCCD#32) (Cert.Vq.Ref.loss (argX m c) (argE m c)))
      (Cert.Vq.Ref.loss (argX m c) (argE m c)),
    fun c => shapeCast Cert.ReferenceIdeal.S8x64x32x32 (Cert.Vq.Ref.chosen (argX m c) (argE m c))
      Cert.ReferenceIdeal.Facts₀.shapeCasts_S8x32x32x64_S8x64x32x32, ?_, ?_⟩
  · refine (θ_run _ _ _).mono (fun r h c => ?_) (Cert.Vq.Run.run m g)
    obtain ⟨h0, h1, h2, h3, h4, hx, he⟩ := h c
    have hl := losses m c (hp c)
    refine ⟨h0.trans (straight m c (hp c) _), h1.trans hl, h2.trans hl, h3.trans ?_,
      h4.trans (quantised m c (hp c) _), hx, he⟩
    rw [hl]
  · refine (θ_run _ _ _).mono (fun r h c => ?_) (Cert.Vq.Ref.run m' g')
    have h' := h c
    rw [(hargs c).1, (hargs c).2] at h'
    obtain ⟨h0, h1, h2, h3, h4, hx, he⟩ := h'
    exact ⟨h0, h1, h2, h3, h4, hx.trans (hargs c).1.symm, he.trans (hargs c).2.symm⟩

/-- Everything the certificate claims. -/
theorem claim : Cert.Claim :=
  ⟨Cert.Kernel.Gen.facts, Cert.KernelIdeal.Gen.facts, Cert.ReferenceIdeal.Gen.facts, Cert.Pre_no_tie.Gen.facts,
    fun m ρ _ => Cert.Kernel.Gen.frame m ρ, fun m ρ _ => Cert.Kernel.Gen.frame m ρ,
    fun m ρ _ => Cert.KernelIdeal.Gen.frame m ρ, fun m ρ _ => Cert.Vq.Ref.frame_ri m ρ,
    fun m ρ _ => Cert.Vq.Ref.frame_ri m ρ, trivial, algebraic⟩

end Cert.Proof

end
